-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_perfect_trees [hPre_perfect_trees : Cert.Pre_perfect_trees.Facts] (m : (ℓ : Loc Cert.KernelIdeal.nD Cert.KernelIdeal.τ Cert.KernelIdeal.sig) → Buf (Elt Ideal) ℓ) : Prop :=
  ∀ c : Dev Cert.KernelIdeal.nD,
    (Cert.Pre_perfect_trees.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perfect_trees [hPre_perfect_trees : Cert.Pre_perfect_trees.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perfect_trees.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_perfect_trees [hKernelIdeal : Cert.KernelIdeal.Facts] [hPre_perfect_trees : Cert.Pre_perfect_trees.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perfect_trees m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_perfect_trees [hReferenceIdeal : Cert.ReferenceIdeal.Facts] [hPre_perfect_trees : Cert.Pre_perfect_trees.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perfect_trees m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_perfect_trees [hKernelIdeal : Cert.KernelIdeal.Facts] [hReferenceIdeal : Cert.ReferenceIdeal.Facts] [hPre_perfect_trees : Cert.Pre_perfect_trees.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perfect_trees m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v402) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_perfect_trees : Cert.Pre_perfect_trees.Facts),
    quiescent_Kernel (hKernel := hKernel)
    ∧ quiescent_KernelIdeal (hKernelIdeal := hKernelIdeal)
    ∧ quiescent_KernelIdeal_pre_perfect_trees (hKernelIdeal := hKernelIdeal) (hPre_perfect_trees := hPre_perfect_trees)
    ∧ quiescent_ReferenceIdeal (hReferenceIdeal := hReferenceIdeal)
    ∧ quiescent_ReferenceIdeal_pre_perfect_trees (hReferenceIdeal := hReferenceIdeal) (hPre_perfect_trees := hPre_perfect_trees)
    ∧ preserves_Kernel_KernelIdeal
    ∧ algebraic_KernelIdeal_ReferenceIdeal_pre_perfect_trees (hKernelIdeal := hKernelIdeal) (hReferenceIdeal := hReferenceIdeal) (hPre_perfect_trees := hPre_perfect_trees)
-- ==== Pre_perfect_trees.lean ====
abbrev S131056x64 : Shape := ⟨2, ![131056, 64]⟩
abbrev S65520x2 : Shape := ⟨2, ![65520, 2]⟩
abbrev S32x64 : Shape := ⟨2, ![32, 64]⟩
abbrev S32 : Shape := ⟨1, ![32]⟩
abbrev S32x96 : Shape := ⟨2, ![32, 96]⟩
abbrev S16x2 : Shape := ⟨2, ![16, 2]⟩
abbrev S_ : Shape := ⟨0, ![]⟩
abbrev S32x2 : Shape := ⟨2, ![32, 2]⟩
abbrev S64x2 : Shape := ⟨2, ![64, 2]⟩
abbrev S128x2 : Shape := ⟨2, ![128, 2]⟩
abbrev S256x2 : Shape := ⟨2, ![256, 2]⟩
abbrev S512x2 : Shape := ⟨2, ![512, 2]⟩
abbrev S1024x2 : Shape := ⟨2, ![1024, 2]⟩
abbrev S2048x2 : Shape := ⟨2, ![2048, 2]⟩
abbrev S4096x2 : Shape := ⟨2, ![4096, 2]⟩
abbrev S8192x2 : Shape := ⟨2, ![8192, 2]⟩
abbrev S16384x2 : Shape := ⟨2, ![16384, 2]⟩
abbrev S32768x2 : Shape := ⟨2, ![32768, 2]⟩

class Facts : Prop where
  slices_S65520x2_S16x2_0_0 : S65520x2.Slices ![0, 0] S16x2
  bcast_S_S16x2 : S_.BroadcastsInDim S16x2 (![] : Fin 0 → Fin S16x2.rank)
  reducesTo_S16x2_S_d0_1 : S16x2.ReducesTo [0, 1] S_
  h_S_ : 0 < S_.numel
  slices_S65520x2_S32x2_16_0 : S65520x2.Slices ![16, 0] S32x2
  bcast_S_S32x2 : S_.BroadcastsInDim S32x2 (![] : Fin 0 → Fin S32x2.rank)
  reducesTo_S32x2_S_d0_1 : S32x2.ReducesTo [0, 1] S_
  slices_S65520x2_S64x2_48_0 : S65520x2.Slices ![48, 0] S64x2
  bcast_S_S64x2 : S_.BroadcastsInDim S64x2 (![] : Fin 0 → Fin S64x2.rank)
  reducesTo_S64x2_S_d0_1 : S64x2.ReducesTo [0, 1] S_
  slices_S65520x2_S128x2_112_0 : S65520x2.Slices ![112, 0] S128x2
  bcast_S_S128x2 : S_.BroadcastsInDim S128x2 (![] : Fin 0 → Fin S128x2.rank)
  reducesTo_S128x2_S_d0_1 : S128x2.ReducesTo [0, 1] S_
  slices_S65520x2_S256x2_240_0 : S65520x2.Slices ![240, 0] S256x2
  bcast_S_S256x2 : S_.BroadcastsInDim S256x2 (![] : Fin 0 → Fin S256x2.rank)
  reducesTo_S256x2_S_d0_1 : S256x2.ReducesTo [0, 1] S_
  slices_S65520x2_S512x2_496_0 : S65520x2.Slices ![496, 0] S512x2
  bcast_S_S512x2 : S_.BroadcastsInDim S512x2 (![] : Fin 0 → Fin S512x2.rank)
  reducesTo_S512x2_S_d0_1 : S512x2.ReducesTo [0, 1] S_
  slices_S65520x2_S1024x2_1008_0 : S65520x2.Slices ![1008, 0] S1024x2
  bcast_S_S1024x2 : S_.BroadcastsInDim S1024x2 (![] : Fin 0 → Fin S1024x2.rank)
  reducesTo_S1024x2_S_d0_1 : S1024x2.ReducesTo [0, 1] S_
  slices_S65520x2_S2048x2_2032_0 : S65520x2.Slices ![2032, 0] S2048x2
  bcast_S_S2048x2 : S_.BroadcastsInDim S2048x2 (![] : Fin 0 → Fin S2048x2.rank)
  reducesTo_S2048x2_S_d0_1 : S2048x2.ReducesTo [0, 1] S_
  slices_S65520x2_S4096x2_4080_0 : S65520x2.Slices ![4080, 0] S4096x2
  bcast_S_S4096x2 : S_.BroadcastsInDim S4096x2 (![] : Fin 0 → Fin S4096x2.rank)
  reducesTo_S4096x2_S_d0_1 : S4096x2.ReducesTo [0, 1] S_
  slices_S65520x2_S8192x2_8176_0 : S65520x2.Slices ![8176, 0] S8192x2
  bcast_S_S8192x2 : S_.BroadcastsInDim S8192x2 (![] : Fin 0 → Fin S8192x2.rank)
  reducesTo_S8192x2_S_d0_1 : S8192x2.ReducesTo [0, 1] S_
  slices_S65520x2_S16384x2_16368_0 : S65520x2.Slices ![16368, 0] S16384x2
  bcast_S_S16384x2 : S_.BroadcastsInDim S16384x2 (![] : Fin 0 → Fin S16384x2.rank)
  reducesTo_S16384x2_S_d0_1 : S16384x2.ReducesTo [0, 1] S_
  slices_S65520x2_S32768x2_32752_0 : S65520x2.Slices ![32752, 0] S32768x2
  bcast_S_S32768x2 : S_.BroadcastsInDim S32768x2 (![] : Fin 0 → Fin S32768x2.rank)
  reducesTo_S32768x2_S_d0_1 : S32768x2.ReducesTo [0, 1] S_

variable [Facts]

def fn_part5 {F : FTy → Type} [FloatOps F] (main_arg1 : IVec S65520x2 32) (main_v89 : IVec S_ 1) (main_v96 : IVec S16384x2 1) (main_c_21 : IVec S_ 1) : IVec S_ 1 :=
  let main_v97 : IVec S_ 1 := (fun x v => Host.reduce IntOp.andi x v reducesTo_S16384x2_S_d0_1 h_S_) main_v96 main_c_21
  let main_v98 : IVec S_ 1 := andi main_v89 main_v97
  let main_v99 : IVec S32768x2 32 := iotaInDim S32768x2 32 0
  let main_v100 : IVec S32768x2 32 := iotaInDim S32768x2 32 1
  let main_v101 : IVec S32768x2 32 := (extractStridedSlice S32768x2 ![32752, 0] · slices_S65520x2_S32768x2_32752_0) main_arg1
  let main_c_22 : IVec S_ 32 := constantI S_ 32 2#32
  let main_v102 : IVec S32768x2 32 := broadcastInDim S32768x2 ![] bcast_S_S32768x2 main_c_22
  let main_v103 : IVec S32768x2 32 := muli main_v102 main_v99
  let main_v104 : IVec S32768x2 32 := addi main_v103 main_v100
  let main_v105 : IVec S32768x2 1 := cmpi .eq main_v101 main_v104
  let main_c_23 : IVec S_ 1 := constantI S_ 1 1#1
  let main_v106 : IVec S_ 1 := (fun x v => Host.reduce IntOp.andi x v reducesTo_S32768x2_S_d0_1 h_S_) main_v105 main_c_23
  let main_v107 : IVec S_ 1 := andi main_v98 main_v106
  main_v107

def fn_part4 {F : FTy → Type} [FloatOps F] (main_arg1 : IVec S65520x2 32) (main_v71 : IVec S_ 1) (main_v74 : IVec S4096x2 32) (main_v77 : IVec S4096x2 32) : IVec S_ 1 :=
  let main_v78 : IVec S4096x2 1 := cmpi .eq main_v74 main_v77
  let main_c_17 : IVec S_ 1 := constantI S_ 1 1#1
  let main_v79 : IVec S_ 1 := (fun x v => Host.reduce IntOp.andi x v reducesTo_S4096x2_S_d0_1 h_S_) main_v78 main_c_17
  let main_v80 : IVec S_ 1 := andi main_v71 main_v79
  let main_v81 : IVec S8192x2 32 := iotaInDim S8192x2 32 0
  let main_v82 : IVec S8192x2 32 := iotaInDim S8192x2 32 1
  let main_v83 : IVec S8192x2 32 := (extractStridedSlice S8192x2 ![8176, 0] · slices_S65520x2_S8192x2_8176_0) main_arg1
  let main_c_18 : IVec S_ 32 := constantI S_ 32 2#32
  let main_v84 : IVec S8192x2 32 := broadcastInDim S8192x2 ![] bcast_S_S8192x2 main_c_18
  let main_v85 : IVec S8192x2 32 := muli main_v84 main_v81
  let main_v86 : IVec S8192x2 32 := addi main_v85 main_v82
  let main_v87 : IVec S8192x2 1 := cmpi .eq main_v83 main_v86
  let main_c_19 : IVec S_ 1 := constantI S_ 1 1#1
  let main_v88 : IVec S_ 1 := (fun x v => Host.reduce IntOp.andi x v reducesTo_S8192x2_S_d0_1 h_S_) main_v87 main_c_19
  let main_v89 : IVec S_ 1 := andi main_v80 main_v88
  let main_v90 : IVec S16384x2 32 := iotaInDim S16384x2 32 0
  let main_v91 : IVec S16384x2 32 := iotaInDim S16384x2 32 1
  let main_v92 : IVec S16384x2 32 := (extractStridedSlice S16384x2 ![16368, 0] · slices_S65520x2_S16384x2_16368_0) main_arg1
  let main_c_20 : IVec S_ 32 := constantI S_ 32 2#32
  let main_v93 : IVec S16384x2 32 := broadcastInDim S16384x2 ![] bcast_S_S16384x2 main_c_20
  let main_v94 : IVec S16384x2 32 := muli main_v93 main_v90
  let main_v95 : IVec S16384x2 32 := addi main_v94 main_v91
  let main_v96 : IVec S16384x2 1 := cmpi .eq main_v92 main_v95
  let main_c_21 : IVec S_ 1 := constantI S_ 1 1#1
  fn_part5 (F := F) main_arg1 main_v89 main_v96 main_c_21

def fn_part3 {F : FTy → Type} [FloatOps F] (main_arg1 : IVec S65520x2 32) (main_v53 : IVec S_ 1) (main_v54 : IVec S1024x2 32) (main_v55 : IVec S1024x2 32) (main_v56 : IVec S1024x2 32) (main_v57 : IVec S1024x2 32) : IVec S_ 1 :=
  let main_v58 : IVec S1024x2 32 := muli main_v57 main_v54
  let main_v59 : IVec S1024x2 32 := addi main_v58 main_v55
  let main_v60 : IVec S1024x2 1 := cmpi .eq main_v56 main_v59
  let main_c_13 : IVec S_ 1 := constantI S_ 1 1#1
  let main_v61 : IVec S_ 1 := (fun x v => Host.reduce IntOp.andi x v reducesTo_S1024x2_S_d0_1 h_S_) main_v60 main_c_13
  let main_v62 : IVec S_ 1 := andi main_v53 main_v61
  let main_v63 : IVec S2048x2 32 := iotaInDim S2048x2 32 0
  let main_v64 : IVec S2048x2 32 := iotaInDim S2048x2 32 1
  let main_v65 : IVec S2048x2 32 := (extractStridedSlice S2048x2 ![2032, 0] · slices_S65520x2_S2048x2_2032_0) main_arg1
  let main_c_14 : IVec S_ 32 := constantI S_ 32 2#32
  let main_v66 : IVec S2048x2 32 := broadcastInDim S2048x2 ![] bcast_S_S2048x2 main_c_14
  let main_v67 : IVec S2048x2 32 := muli main_v66 main_v63
  let main_v68 : IVec S2048x2 32 := addi main_v67 main_v64
  let main_v69 : IVec S2048x2 1 := cmpi .eq main_v65 main_v68
  let main_c_15 : IVec S_ 1 := constantI S_ 1 1#1
  let main_v70 : IVec S_ 1 := (fun x v => Host.reduce IntOp.andi x v reducesTo_S2048x2_S_d0_1 h_S_) main_v69 main_c_15
  let main_v71 : IVec S_ 1 := andi main_v62 main_v70
  let main_v72 : IVec S4096x2 32 := iotaInDim S4096x2 32 0
  let main_v73 : IVec S4096x2 32 := iotaInDim S4096x2 32 1
  let main_v74 : IVec S4096x2 32 := (extractStridedSlice S4096x2 ![4080, 0] · slices_S65520x2_S4096x2_4080_0) main_arg1
  let main_c_16 : IVec S_ 32 := constantI S_ 32 2#32
  let main_v75 : IVec S4096x2 32 := broadcastInDim S4096x2 ![] bcast_S_S4096x2 main_c_16
  let main_v76 : IVec S4096x2 32 := muli main_v75 main_v72
  let main_v77 : IVec S4096x2 32 := addi main_v76 main_v73
  fn_part4 (F := F) main_arg1 main_v71 main_v74 main_v77

def fn_part2 {F : FTy → Type} [FloatOps F] (main_arg1 : IVec S65520x2 32) (main_v35 : IVec S_ 1) (main_v36 : IVec S256x2 32) (main_v37 : IVec S256x2 32) (main_v38 : IVec S256x2 32) : IVec S_ 1 :=
  let main_c_8 : IVec S_ 32 := constantI S_ 32 2#32
  let main_v39 : IVec S256x2 32 := broadcastInDim S256x2 ![] bcast_S_S256x2 main_c_8
  let main_v40 : IVec S256x2 32 := muli main_v39 main_v36
  let main_v41 : IVec S256x2 32 := addi main_v40 main_v37
  let main_v42 : IVec S256x2 1 := cmpi .eq main_v38 main_v41
  let main_c_9 : IVec S_ 1 := constantI S_ 1 1#1
  let main_v43 : IVec S_ 1 := (fun x v => Host.reduce IntOp.andi x v reducesTo_S256x2_S_d0_1 h_S_) main_v42 main_c_9
  let main_v44 : IVec S_ 1 := andi main_v35 main_v43
  let main_v45 : IVec S512x2 32 := iotaInDim S512x2 32 0
  let main_v46 : IVec S512x2 32 := iotaInDim S512x2 32 1
  let main_v47 : IVec S512x2 32 := (extractStridedSlice S512x2 ![496, 0] · slices_S65520x2_S512x2_496_0) main_arg1
  let main_c_10 : IVec S_ 32 := constantI S_ 32 2#32
  let main_v48 : IVec S512x2 32 := broadcastInDim S512x2 ![] bcast_S_S512x2 main_c_10
  let main_v49 : IVec S512x2 32 := muli main_v48 main_v45
  let main_v50 : IVec S512x2 32 := addi main_v49 main_v46
  let main_v51 : IVec S512x2 1 := cmpi .eq main_v47 main_v50
  let main_c_11 : IVec S_ 1 := constantI S_ 1 1#1
  let main_v52 : IVec S_ 1 := (fun x v => Host.reduce IntOp.andi x v reducesTo_S512x2_S_d0_1 h_S_) main_v51 main_c_11
  let main_v53 : IVec S_ 1 := andi main_v44 main_v52
  let main_v54 : IVec S1024x2 32 := iotaInDim S1024x2 32 0
  let main_v55 : IVec S1024x2 32 := iotaInDim S1024x2 32 1
  let main_v56 : IVec S1024x2 32 := (extractStridedSlice S1024x2 ![1008, 0] · slices_S65520x2_S1024x2_1008_0) main_arg1
  let main_c_12 : IVec S_ 32 := constantI S_ 32 2#32
  let main_v57 : IVec S1024x2 32 := broadcastInDim S1024x2 ![] bcast_S_S1024x2 main_c_12
  fn_part3 (F := F) main_arg1 main_v53 main_v54 main_v55 main_v56 main_v57

def fn_part1 {F : FTy → Type} [FloatOps F] (main_arg1 : IVec S65520x2 32) (main_v17 : IVec S_ 1) (main_v18 : IVec S64x2 32) : IVec S_ 1 :=
  let main_v19 : IVec S64x2 32 := iotaInDim S64x2 32 1
  let main_v20 : IVec S64x2 32 := (extractStridedSlice S64x2 ![48, 0] · slices_S65520x2_S64x2_48_0) main_arg1
  let main_c_4 : IVec S_ 32 := constantI S_ 32 2#32
  let main_v21 : IVec S64x2 32 := broadcastInDim S64x2 ![] bcast_S_S64x2 main_c_4
  let main_v22 : IVec S64x2 32 := muli main_v21 main_v18
  let main_v23 : IVec S64x2 32 := addi main_v22 main_v19
  let main_v24 : IVec S64x2 1 := cmpi .eq main_v20 main_v23
  let main_c_5 : IVec S_ 1 := constantI S_ 1 1#1
  let main_v25 : IVec S_ 1 := (fun x v => Host.reduce IntOp.andi x v reducesTo_S64x2_S_d0_1 h_S_) main_v24 main_c_5
  let main_v26 : IVec S_ 1 := andi main_v17 main_v25
  let main_v27 : IVec S128x2 32 := iotaInDim S128x2 32 0
  let main_v28 : IVec S128x2 32 := iotaInDim S128x2 32 1
  let main_v29 : IVec S128x2 32 := (extractStridedSlice S128x2 ![112, 0] · slices_S65520x2_S128x2_112_0) main_arg1
  let main_c_6 : IVec S_ 32 := constantI S_ 32 2#32
  let main_v30 : IVec S128x2 32 := broadcastInDim S128x2 ![] bcast_S_S128x2 main_c_6
  let main_v31 : IVec S128x2 32 := muli main_v30 main_v27
  let main_v32 : IVec S128x2 32 := addi main_v31 main_v28
  let main_v33 : IVec S128x2 1 := cmpi .eq main_v29 main_v32
  let main_c_7 : IVec S_ 1 := constantI S_ 1 1#1
  let main_v34 : IVec S_ 1 := (fun x v => Host.reduce IntOp.andi x v reducesTo_S128x2_S_d0_1 h_S_) main_v33 main_c_7
  let main_v35 : IVec S_ 1 := andi main_v26 main_v34
  let main_v36 : IVec S256x2 32 := iotaInDim S256x2 32 0
  let main_v37 : IVec S256x2 32 := iotaInDim S256x2 32 1
  let main_v38 : IVec S256x2 32 := (extractStridedSlice S256x2 ![240, 0] · slices_S65520x2_S256x2_240_0) main_arg1
  fn_part2 (F := F) main_arg1 main_v35 main_v36 main_v37 main_v38

def fn {F : FTy → Type} [FloatOps F] (main_arg0 : FVec F S131056x64 .f32) (main_arg1 : IVec S65520x2 32) (main_arg2 : FVec F S32x64 .f32) (main_arg3 : FVec F S32 .f32) (main_arg4 : FVec F S32x96 .f32) (main_arg5 : FVec F S32 .f32) : IVec S_ 1 :=
  let main_v0 : IVec S16x2 32 := iotaInDim S16x2 32 0
  let main_v1 : IVec S16x2 32 := iotaInDim S16x2 32 1
  let main_v2 : IVec S16x2 32 := (extractStridedSlice S16x2 ![0, 0] · slices_S65520x2_S16x2_0_0) main_arg1
  let main_c : IVec S_ 32 := constantI S_ 32 2#32
  let main_v3 : IVec S16x2 32 := broadcastInDim S16x2 ![] bcast_S_S16x2 main_c
  let main_v4 : IVec S16x2 32 := muli main_v3 main_v0
  let main_v5 : IVec S16x2 32 := addi main_v4 main_v1
  let main_v6 : IVec S16x2 1 := cmpi .eq main_v2 main_v5
  let main_c_0 : IVec S_ 1 := constantI S_ 1 1#1
  let main_v7 : IVec S_ 1 := (fun x v => Host.reduce IntOp.andi x v reducesTo_S16x2_S_d0_1 h_S_) main_v6 main_c_0
  let main_c_1 : IVec S_ 1 := constantI S_ 1 1#1
  let main_v8 : IVec S_ 1 := andi main_c_1 main_v7
  let main_v9 : IVec S32x2 32 := iotaInDim S32x2 32 0
  let main_v10 : IVec S32x2 32 := iotaInDim S32x2 32 1
  let main_v11 : IVec S32x2 32 := (extractStridedSlice S32x2 ![16, 0] · slices_S65520x2_S32x2_16_0) main_arg1
  let main_c_2 : IVec S_ 32 := constantI S_ 32 2#32
  let main_v12 : IVec S32x2 32 := broadcastInDim S32x2 ![] bcast_S_S32x2 main_c_2
  let main_v13 : IVec S32x2 32 := muli main_v12 main_v9
  let main_v14 : IVec S32x2 32 := addi main_v13 main_v10
  let main_v15 : IVec S32x2 1 := cmpi .eq main_v11 main_v14
  let main_c_3 : IVec S_ 1 := constantI S_ 1 1#1
  let main_v16 : IVec S_ 1 := (fun x v => Host.reduce IntOp.andi x v reducesTo_S32x2_S_d0_1 h_S_) main_v15 main_c_3
  let main_v17 : IVec S_ 1 := andi main_v8 main_v16
  let main_v18 : IVec S64x2 32 := iotaInDim S64x2 32 0
  fn_part1 (F := F) main_arg1 main_v17 main_v18
-- ==== Kernel.lean ====
abbrev S131056x64 : Shape := ⟨2, ![131056, 64]⟩
abbrev S65520x2 : Shape := ⟨2, ![65520, 2]⟩
abbrev S32x64 : Shape := ⟨2, ![32, 64]⟩
abbrev S32 : Shape := ⟨1, ![32]⟩
abbrev S32x96 : Shape := ⟨2, ![32, 96]⟩
abbrev S1x32 : Shape := ⟨2, ![1, 32]⟩
abbrev S16x32 : Shape := ⟨2, ![16, 32]⟩
abbrev S2048x64 : Shape := ⟨2, ![2048, 64]⟩
abbrev S32768x128 : Shape := ⟨2, ![32768, 128]⟩
abbrev S8192x128 : Shape := ⟨2, ![8192, 128]⟩
abbrev S4096x128 : Shape := ⟨2, ![4096, 128]⟩
abbrev S256x128 : Shape := ⟨2, ![256, 128]⟩
abbrev S128x128 : Shape := ⟨2, ![128, 128]⟩
abbrev S1x128 : Shape := ⟨2, ![1, 128]⟩
abbrev S64x32 : Shape := ⟨2, ![64, 32]⟩
abbrev S96x32 : Shape := ⟨2, ![96, 32]⟩
abbrev S32x32 : Shape := ⟨2, ![32, 32]⟩
abbrev S512x64 : Shape := ⟨2, ![512, 64]⟩
abbrev S512x256 : Shape := ⟨2, ![512, 256]⟩
abbrev S512x128 : Shape := ⟨2, ![512, 128]⟩
abbrev S1024x128 : Shape := ⟨2, ![1024, 128]⟩
abbrev S64x128 : Shape := ⟨2, ![64, 128]⟩
abbrev S32x128 : Shape := ⟨2, ![32, 128]⟩
abbrev S16x128 : Shape := ⟨2, ![16, 128]⟩
abbrev S8x128 : Shape := ⟨2, ![8, 128]⟩
abbrev S4x128 : Shape := ⟨2, ![4, 128]⟩
abbrev S4x32 : Shape := ⟨2, ![4, 32]⟩

abbrev nBuf : Space → Nat
  | .hbm => 9
  | .vmem => 30
  | .smem => 0
  | _ => 0

abbrev bufTy : (tb : Table) → Fin (tcTables nBuf tb) → BufTy
  | .hbm, ⟨0, _⟩ => ⟨S131056x64, .f32⟩
  | .hbm, ⟨1, _⟩ => ⟨S65520x2, .i32⟩
  | .hbm, ⟨2, _⟩ => ⟨S32x64, .f32⟩
  | .hbm, ⟨3, _⟩ => ⟨S32, .f32⟩
  | .hbm, ⟨4, _⟩ => ⟨S32x96, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S16x32, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S32x64, .f32⟩
  | .local _ .vmem, ⟨17, _⟩ => ⟨S1x32, .f32⟩
  | .local _ .vmem, ⟨18, _⟩ => ⟨S32x96, .f32⟩
  | .local _ .vmem, ⟨19, _⟩ => ⟨S1x32, .f32⟩
  | .local _ .vmem, ⟨20, _⟩ => ⟨S16x32, .f32⟩
  | .local _ .vmem, ⟨21, _⟩ => ⟨S32768x128, .f32⟩
  | .local _ .vmem, ⟨22, _⟩ => ⟨S8192x128, .f32⟩
  | .local _ .vmem, ⟨23, _⟩ => ⟨S4096x128, .f32⟩
  | .local _ .vmem, ⟨24, _⟩ => ⟨S256x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S1x128, .f32⟩
  | _, _ => ⟨S131056x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) (c0_i32_13 : BitVec 32) : Fin 2 → Nat :=
  let arg0 : BitVec 32 := BitVec.ofNat 32 (i 0).val
  let c4096_i32 : BitVec 32 := 4096#32
  let v21 : BitVec 32 := Scalar.muli arg0 c4096_i32
  let v22 : BitVec 32 := Scalar.addi v21 c0_i32_13
  let v23 : Index := Scalar.indexCast v22
  let c0_14 : Index := 0#32
  ![v23.toNat, 0]
def k0_cond3 (i : grid0.Coords) : BitVec 1 :=
  let arg0 : BitVec 32 := BitVec.ofNat 32 (i 0).val
  let c8_i32_2 : BitVec 32 := 8#32
  let v6 : BitVec 1 := Scalar.cmpi .eq arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c2_i32 : BitVec 32 := 2#32
  let v2 : BitVec 32 := Scalar.addi v1 c2_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c3_i32 : BitVec 32 := 3#32
  let v2 : BitVec 32 := Scalar.addi v1 c3_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c4_i32 : BitVec 32 := 4#32
  let v2 : BitVec 32 := Scalar.addi v1 c4_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c5_i32 : BitVec 32 := 5#32
  let v2 : BitVec 32 := Scalar.addi v1 c5_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c6_i32 : BitVec 32 := 6#32
  let v2 : BitVec 32 := Scalar.addi v1 c6_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c8_i32 : BitVec 32 := 8#32
  let v1 : BitVec 32 := Scalar.muli v0 c8_i32
  let c7_i32_0 : BitVec 32 := 7#32
  let v2 : BitVec 32 := Scalar.addi v1 c7_i32_0
  let c0_i32 : BitVec 32 := 0#32
  let c0_i32_1 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S131056x64 : Shape := ⟨2, ![131056, 64]⟩
abbrev S65520x2 : Shape := ⟨2, ![65520, 2]⟩
abbrev S32x64 : Shape := ⟨2, ![32, 64]⟩
abbrev S32 : Shape := ⟨1, ![32]⟩
abbrev S32x96 : Shape := ⟨2, ![32, 96]⟩
abbrev S65536x64 : Shape := ⟨2, ![65536, 64]⟩
abbrev S64x32 : Shape := ⟨2, ![64, 32]⟩
abbrev S65536x32 : Shape := ⟨2, ![65536, 32]⟩
abbrev S1x32 : Shape := ⟨2, ![1, 32]⟩
abbrev S_ : Shape := ⟨0, ![]⟩
abbrev S32768x64 : Shape := ⟨2, ![32768, 64]⟩
abbrev S32768x32 : Shape := ⟨2, ![32768, 32]⟩
abbrev S32768x2 : Shape := ⟨2, ![32768, 2]⟩
abbrev S32768x1 : Shape := ⟨2, ![32768, 1]⟩
abbrev S32768 : Shape := ⟨1, ![32768]⟩
abbrev S32768x96 : Shape := ⟨2, ![32768, 96]⟩
abbrev S96x32 : Shape := ⟨2, ![96, 32]⟩
abbrev S16384x64 : Shape := ⟨2, ![16384, 64]⟩
abbrev S16384x32 : Shape := ⟨2, ![16384, 32]⟩
abbrev S16384x2 : Shape := ⟨2, ![16384, 2]⟩
abbrev S16384x1 : Shape := ⟨2, ![16384, 1]⟩
abbrev S16384 : Shape := ⟨1, ![16384]⟩
abbrev S16384x96 : Shape := ⟨2, ![16384, 96]⟩
abbrev S8192x64 : Shape := ⟨2, ![8192, 64]⟩
abbrev S8192x32 : Shape := ⟨2, ![8192, 32]⟩
abbrev S8192x2 : Shape := ⟨2, ![8192, 2]⟩
abbrev S8192x1 : Shape := ⟨2, ![8192, 1]⟩
abbrev S8192 : Shape := ⟨1, ![8192]⟩
abbrev S8192x96 : Shape := ⟨2, ![8192, 96]⟩
abbrev S4096x64 : Shape := ⟨2, ![4096, 64]⟩
abbrev S4096x32 : Shape := ⟨2, ![4096, 32]⟩
abbrev S4096x2 : Shape := ⟨2, ![4096, 2]⟩
abbrev S4096x1 : Shape := ⟨2, ![4096, 1]⟩
abbrev S4096 : Shape := ⟨1, ![4096]⟩
abbrev S4096x96 : Shape := ⟨2, ![4096, 96]⟩
abbrev S2048x64 : Shape := ⟨2, ![2048, 64]⟩
abbrev S2048x32 : Shape := ⟨2, ![2048, 32]⟩
abbrev S2048x2 : Shape := ⟨2, ![2048, 2]⟩
abbrev S2048x1 : Shape := ⟨2, ![2048, 1]⟩
abbrev S2048 : Shape := ⟨1, ![2048]⟩
abbrev S2048x96 : Shape := ⟨2, ![2048, 96]⟩
abbrev S1024x64 : Shape := ⟨2, ![1024, 64]⟩
abbrev S1024x32 : Shape := ⟨2, ![1024, 32]⟩
abbrev S1024x2 : Shape := ⟨2, ![1024, 2]⟩
abbrev S1024x1 : Shape := ⟨2, ![1024, 1]⟩
abbrev S1024 : Shape := ⟨1, ![1024]⟩
abbrev S1024x96 : Shape := ⟨2, ![1024, 96]⟩
abbrev S512x64 : Shape := ⟨2, ![512, 64]⟩
abbrev S512x32 : Shape := ⟨2, ![512, 32]⟩
abbrev S512x2 : Shape := ⟨2, ![512, 2]⟩
abbrev S512x1 : Shape := ⟨2, ![512, 1]⟩
abbrev S512 : Shape := ⟨1, ![512]⟩
abbrev S512x96 : Shape := ⟨2, ![512, 96]⟩
abbrev S256x64 : Shape := ⟨2, ![256, 64]⟩
abbrev S256x32 : Shape := ⟨2, ![256, 32]⟩
abbrev S256x2 : Shape := ⟨2, ![256, 2]⟩
abbrev S256x1 : Shape := ⟨2, ![256, 1]⟩
abbrev S256 : Shape := ⟨1, ![256]⟩
abbrev S256x96 : Shape := ⟨2, ![256, 96]⟩
abbrev S128x64 : Shape := ⟨2, ![128, 64]⟩
abbrev S128x32 : Shape := ⟨2, ![128, 32]⟩
abbrev S128x2 : Shape := ⟨2, ![128, 2]⟩
abbrev S128x1 : Shape := ⟨2, ![128, 1]⟩
abbrev S128 : Shape := ⟨1, ![128]⟩
abbrev S128x96 : Shape := ⟨2, ![128, 96]⟩
abbrev S64x64 : Shape := ⟨2, ![64, 64]⟩
abbrev S64x2 : Shape := ⟨2, ![64, 2]⟩
abbrev S64x1 : Shape := ⟨2, ![64, 1]⟩
abbrev S64 : Shape := ⟨1, ![64]⟩
abbrev S64x96 : Shape := ⟨2, ![64, 96]⟩
abbrev S32x32 : Shape := ⟨2, ![32, 32]⟩
abbrev S32x2 : Shape := ⟨2, ![32, 2]⟩
abbrev S32x1 : Shape := ⟨2, ![32, 1]⟩
abbrev S16x64 : Shape := ⟨2, ![16, 64]⟩
abbrev S16x32 : Shape := ⟨2, ![16, 32]⟩
abbrev S16x2 : Shape := ⟨2, ![16, 2]⟩
abbrev S16x1 : Shape := ⟨2, ![16, 1]⟩
abbrev S16 : Shape := ⟨1, ![16]⟩
abbrev S16x96 : Shape := ⟨2, ![16, 96]⟩

abbrev nBuf : Space → Nat
  | .hbm => 507
  | .vmem => 0
  | .smem => 0
  | _ => 0

abbrev hbmTy0_0 (i : Nat) : BufTy := match i % 128 with
  | 0 => ⟨S131056x64, .f32⟩
  | 1 => ⟨S65520x2, .i32⟩
  | 2 => ⟨S32x64, .f32⟩
  | 3 => ⟨S32, .f32⟩
  | 4 => ⟨S32x96, .f32⟩
  | 5 => ⟨S32, .f32⟩
  | 6 => ⟨S65536x64, .f32⟩
  | 7 => ⟨S64x32, .f32⟩
  | 8 => ⟨S65536x32, .f32⟩
  | 9 => ⟨S1x32, .f32⟩
  | 10 => ⟨S65536x32, .f32⟩
  | 11 => ⟨S65536x32, .f32⟩
  | 12 => ⟨S_, .f32⟩
  | 13 => ⟨S65536x32, .f32⟩
  | 14 => ⟨S65536x32, .f32⟩
  | 15 => ⟨S32768x64, .f32⟩
  | 16 => ⟨S64x32, .f32⟩
  | 17 => ⟨S32768x32, .f32⟩
  | 18 => ⟨S1x32, .f32⟩
  | 19 => ⟨S32768x32, .f32⟩
  | 20 => ⟨S32768x32, .f32⟩
  | 21 => ⟨S_, .f32⟩
  | 22 => ⟨S32768x32, .f32⟩
  | 23 => ⟨S32768x32, .f32⟩
  | 24 => ⟨S32768x2, .i32⟩
  | 25 => ⟨S32768x1, .i32⟩
  | 26 => ⟨S32768, .i32⟩
  | 27 => ⟨S_, .i32⟩
  | 28 => ⟨S32768, .i32⟩
  | 29 => ⟨S32768, .i1⟩
  | 30 => ⟨S_, .i32⟩
  | 31 => ⟨S32768, .i32⟩
  | 32 => ⟨S32768, .i32⟩
  | 33 => ⟨S32768, .i32⟩
  | 34 => ⟨S32768x1, .i32⟩
  | 35 => ⟨S32768x32, .f32⟩
  | 36 => ⟨S32768x1, .i32⟩
  | 37 => ⟨S32768, .i32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S32768x32, .f32⟩
  | 47 => ⟨S32768x96, .f32⟩
  | 48 => ⟨S96x32, .f32⟩
  | 49 => ⟨S32768x32, .f32⟩
  | 50 => ⟨S1x32, .f32⟩
  | 51 => ⟨S32768x32, .f32⟩
  | 52 => ⟨S32768x32, .f32⟩
  | 53 => ⟨S_, .f32⟩
  | 54 => ⟨S32768x32, .f32⟩
  | 55 => ⟨S32768x32, .f32⟩
  | 56 => ⟨S16384x64, .f32⟩
  | 57 => ⟨S64x32, .f32⟩
  | 58 => ⟨S16384x32, .f32⟩
  | 59 => ⟨S1x32, .f32⟩
  | 60 => ⟨S16384x32, .f32⟩
  | 61 => ⟨S16384x32, .f32⟩
  | 62 => ⟨S_, .f32⟩
  | 63 => ⟨S16384x32, .f32⟩
  | 64 => ⟨S16384x32, .f32⟩
  | 65 => ⟨S16384x2, .i32⟩
  | 66 => ⟨S16384x1, .i32⟩
  | 67 => ⟨S16384, .i32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S16384x32, .f32⟩
  | 77 => ⟨S16384x1, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384x32, .f32⟩
  | 88 => ⟨S16384x96, .f32⟩
  | 89 => ⟨S96x32, .f32⟩
  | 90 => ⟨S16384x32, .f32⟩
  | 91 => ⟨S1x32, .f32⟩
  | 92 => ⟨S16384x32, .f32⟩
  | 93 => ⟨S16384x32, .f32⟩
  | 94 => ⟨S_, .f32⟩
  | 95 => ⟨S16384x32, .f32⟩
  | 96 => ⟨S16384x32, .f32⟩
  | 97 => ⟨S8192x64, .f32⟩
  | 98 => ⟨S64x32, .f32⟩
  | 99 => ⟨S8192x32, .f32⟩
  | 100 => ⟨S1x32, .f32⟩
  | 101 => ⟨S8192x32, .f32⟩
  | 102 => ⟨S8192x32, .f32⟩
  | 103 => ⟨S_, .f32⟩
  | 104 => ⟨S8192x32, .f32⟩
  | 105 => ⟨S8192x32, .f32⟩
  | 106 => ⟨S8192x2, .i32⟩
  | 107 => ⟨S8192x1, .i32⟩
  | 108 => ⟨S8192, .i32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x32, .f32⟩
  | 118 => ⟨S8192x1, .i32⟩
  | 119 => ⟨S8192, .i32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S131056x64, .f32⟩

abbrev hbmTy0_1 (i : Nat) : BufTy := match i % 128 with
  | 0 => ⟨S8192x32, .f32⟩
  | 1 => ⟨S8192x96, .f32⟩
  | 2 => ⟨S96x32, .f32⟩
  | 3 => ⟨S8192x32, .f32⟩
  | 4 => ⟨S1x32, .f32⟩
  | 5 => ⟨S8192x32, .f32⟩
  | 6 => ⟨S8192x32, .f32⟩
  | 7 => ⟨S_, .f32⟩
  | 8 => ⟨S8192x32, .f32⟩
  | 9 => ⟨S8192x32, .f32⟩
  | 10 => ⟨S4096x64, .f32⟩
  | 11 => ⟨S64x32, .f32⟩
  | 12 => ⟨S4096x32, .f32⟩
  | 13 => ⟨S1x32, .f32⟩
  | 14 => ⟨S4096x32, .f32⟩
  | 15 => ⟨S4096x32, .f32⟩
  | 16 => ⟨S_, .f32⟩
  | 17 => ⟨S4096x32, .f32⟩
  | 18 => ⟨S4096x32, .f32⟩
  | 19 => ⟨S4096x2, .i32⟩
  | 20 => ⟨S4096x1, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x32, .f32⟩
  | 31 => ⟨S4096x1, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x32, .f32⟩
  | 42 => ⟨S4096x96, .f32⟩
  | 43 => ⟨S96x32, .f32⟩
  | 44 => ⟨S4096x32, .f32⟩
  | 45 => ⟨S1x32, .f32⟩
  | 46 => ⟨S4096x32, .f32⟩
  | 47 => ⟨S4096x32, .f32⟩
  | 48 => ⟨S_, .f32⟩
  | 49 => ⟨S4096x32, .f32⟩
  | 50 => ⟨S4096x32, .f32⟩
  | 51 => ⟨S2048x64, .f32⟩
  | 52 => ⟨S64x32, .f32⟩
  | 53 => ⟨S2048x32, .f32⟩
  | 54 => ⟨S1x32, .f32⟩
  | 55 => ⟨S2048x32, .f32⟩
  | 56 => ⟨S2048x32, .f32⟩
  | 57 => ⟨S_, .f32⟩
  | 58 => ⟨S2048x32, .f32⟩
  | 59 => ⟨S2048x32, .f32⟩
  | 60 => ⟨S2048x2, .i32⟩
  | 61 => ⟨S2048x1, .i32⟩
  | 62 => ⟨S2048, .i32⟩
  | 63 => ⟨S_, .i32⟩
  | 64 => ⟨S2048, .i32⟩
  | 65 => ⟨S2048, .i1⟩
  | 66 => ⟨S_, .i32⟩
  | 67 => ⟨S2048, .i32⟩
  | 68 => ⟨S2048, .i32⟩
  | 69 => ⟨S2048, .i32⟩
  | 70 => ⟨S2048x1, .i32⟩
  | 71 => ⟨S2048x32, .f32⟩
  | 72 => ⟨S2048x1, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S2048x32, .f32⟩
  | 83 => ⟨S2048x96, .f32⟩
  | 84 => ⟨S96x32, .f32⟩
  | 85 => ⟨S2048x32, .f32⟩
  | 86 => ⟨S1x32, .f32⟩
  | 87 => ⟨S2048x32, .f32⟩
  | 88 => ⟨S2048x32, .f32⟩
  | 89 => ⟨S_, .f32⟩
  | 90 => ⟨S2048x32, .f32⟩
  | 91 => ⟨S2048x32, .f32⟩
  | 92 => ⟨S1024x64, .f32⟩
  | 93 => ⟨S64x32, .f32⟩
  | 94 => ⟨S1024x32, .f32⟩
  | 95 => ⟨S1x32, .f32⟩
  | 96 => ⟨S1024x32, .f32⟩
  | 97 => ⟨S1024x32, .f32⟩
  | 98 => ⟨S_, .f32⟩
  | 99 => ⟨S1024x32, .f32⟩
  | 100 => ⟨S1024x32, .f32⟩
  | 101 => ⟨S1024x2, .i32⟩
  | 102 => ⟨S1024x1, .i32⟩
  | 103 => ⟨S1024, .i32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1024x32, .f32⟩
  | 113 => ⟨S1024x1, .i32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024x32, .f32⟩
  | 124 => ⟨S1024x96, .f32⟩
  | 125 => ⟨S96x32, .f32⟩
  | 126 => ⟨S1024x32, .f32⟩
  | 127 => ⟨S1x32, .f32⟩
  | _ => ⟨S131056x64, .f32⟩

abbrev hbmTy0_2 (i : Nat) : BufTy := match i % 128 with
  | 0 => ⟨S1024x32, .f32⟩
  | 1 => ⟨S1024x32, .f32⟩
  | 2 => ⟨S_, .f32⟩
  | 3 => ⟨S1024x32, .f32⟩
  | 4 => ⟨S1024x32, .f32⟩
  | 5 => ⟨S512x64, .f32⟩
  | 6 => ⟨S64x32, .f32⟩
  | 7 => ⟨S512x32, .f32⟩
  | 8 => ⟨S1x32, .f32⟩
  | 9 => ⟨S512x32, .f32⟩
  | 10 => ⟨S512x32, .f32⟩
  | 11 => ⟨S_, .f32⟩
  | 12 => ⟨S512x32, .f32⟩
  | 13 => ⟨S512x32, .f32⟩
  | 14 => ⟨S512x2, .i32⟩
  | 15 => ⟨S512x1, .i32⟩
  | 16 => ⟨S512, .i32⟩
  | 17 => ⟨S_, .i32⟩
  | 18 => ⟨S512, .i32⟩
  | 19 => ⟨S512, .i1⟩
  | 20 => ⟨S_, .i32⟩
  | 21 => ⟨S512, .i32⟩
  | 22 => ⟨S512, .i32⟩
  | 23 => ⟨S512, .i32⟩
  | 24 => ⟨S512x1, .i32⟩
  | 25 => ⟨S512x32, .f32⟩
  | 26 => ⟨S512x1, .i32⟩
  | 27 => ⟨S512, .i32⟩
  | 28 => ⟨S_, .i32⟩
  | 29 => ⟨S512, .i32⟩
  | 30 => ⟨S512, .i1⟩
  | 31 => ⟨S_, .i32⟩
  | 32 => ⟨S512, .i32⟩
  | 33 => ⟨S512, .i32⟩
  | 34 => ⟨S512, .i32⟩
  | 35 => ⟨S512x1, .i32⟩
  | 36 => ⟨S512x32, .f32⟩
  | 37 => ⟨S512x96, .f32⟩
  | 38 => ⟨S96x32, .f32⟩
  | 39 => ⟨S512x32, .f32⟩
  | 40 => ⟨S1x32, .f32⟩
  | 41 => ⟨S512x32, .f32⟩
  | 42 => ⟨S512x32, .f32⟩
  | 43 => ⟨S_, .f32⟩
  | 44 => ⟨S512x32, .f32⟩
  | 45 => ⟨S512x32, .f32⟩
  | 46 => ⟨S256x64, .f32⟩
  | 47 => ⟨S64x32, .f32⟩
  | 48 => ⟨S256x32, .f32⟩
  | 49 => ⟨S1x32, .f32⟩
  | 50 => ⟨S256x32, .f32⟩
  | 51 => ⟨S256x32, .f32⟩
  | 52 => ⟨S_, .f32⟩
  | 53 => ⟨S256x32, .f32⟩
  | 54 => ⟨S256x32, .f32⟩
  | 55 => ⟨S256x2, .i32⟩
  | 56 => ⟨S256x1, .i32⟩
  | 57 => ⟨S256, .i32⟩
  | 58 => ⟨S_, .i32⟩
  | 59 => ⟨S256, .i32⟩
  | 60 => ⟨S256, .i1⟩
  | 61 => ⟨S_, .i32⟩
  | 62 => ⟨S256, .i32⟩
  | 63 => ⟨S256, .i32⟩
  | 64 => ⟨S256, .i32⟩
  | 65 => ⟨S256x1, .i32⟩
  | 66 => ⟨S256x32, .f32⟩
  | 67 => ⟨S256x1, .i32⟩
  | 68 => ⟨S256, .i32⟩
  | 69 => ⟨S_, .i32⟩
  | 70 => ⟨S256, .i32⟩
  | 71 => ⟨S256, .i1⟩
  | 72 => ⟨S_, .i32⟩
  | 73 => ⟨S256, .i32⟩
  | 74 => ⟨S256, .i32⟩
  | 75 => ⟨S256, .i32⟩
  | 76 => ⟨S256x1, .i32⟩
  | 77 => ⟨S256x32, .f32⟩
  | 78 => ⟨S256x96, .f32⟩
  | 79 => ⟨S96x32, .f32⟩
  | 80 => ⟨S256x32, .f32⟩
  | 81 => ⟨S1x32, .f32⟩
  | 82 => ⟨S256x32, .f32⟩
  | 83 => ⟨S256x32, .f32⟩
  | 84 => ⟨S_, .f32⟩
  | 85 => ⟨S256x32, .f32⟩
  | 86 => ⟨S256x32, .f32⟩
  | 87 => ⟨S128x64, .f32⟩
  | 88 => ⟨S64x32, .f32⟩
  | 89 => ⟨S128x32, .f32⟩
  | 90 => ⟨S1x32, .f32⟩
  | 91 => ⟨S128x32, .f32⟩
  | 92 => ⟨S128x32, .f32⟩
  | 93 => ⟨S_, .f32⟩
  | 94 => ⟨S128x32, .f32⟩
  | 95 => ⟨S128x32, .f32⟩
  | 96 => ⟨S128x2, .i32⟩
  | 97 => ⟨S128x1, .i32⟩
  | 98 => ⟨S128, .i32⟩
  | 99 => ⟨S_, .i32⟩
  | 100 => ⟨S128, .i32⟩
  | 101 => ⟨S128, .i1⟩
  | 102 => ⟨S_, .i32⟩
  | 103 => ⟨S128, .i32⟩
  | 104 => ⟨S128, .i32⟩
  | 105 => ⟨S128, .i32⟩
  | 106 => ⟨S128x1, .i32⟩
  | 107 => ⟨S128x32, .f32⟩
  | 108 => ⟨S128x1, .i32⟩
  | 109 => ⟨S128, .i32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S128x32, .f32⟩
  | 119 => ⟨S128x96, .f32⟩
  | 120 => ⟨S96x32, .f32⟩
  | 121 => ⟨S128x32, .f32⟩
  | 122 => ⟨S1x32, .f32⟩
  | 123 => ⟨S128x32, .f32⟩
  | 124 => ⟨S128x32, .f32⟩
  | 125 => ⟨S_, .f32⟩
  | 126 => ⟨S128x32, .f32⟩
  | 127 => ⟨S128x32, .f32⟩
  | _ => ⟨S131056x64, .f32⟩

abbrev hbmTy0_3 (i : Nat) : BufTy := match i % 128 with
  | 0 => ⟨S64x64, .f32⟩
  | 1 => ⟨S64x32, .f32⟩
  | 2 => ⟨S64x32, .f32⟩
  | 3 => ⟨S1x32, .f32⟩
  | 4 => ⟨S64x32, .f32⟩
  | 5 => ⟨S64x32, .f32⟩
  | 6 => ⟨S_, .f32⟩
  | 7 => ⟨S64x32, .f32⟩
  | 8 => ⟨S64x32, .f32⟩
  | 9 => ⟨S64x2, .i32⟩
  | 10 => ⟨S64x1, .i32⟩
  | 11 => ⟨S64, .i32⟩
  | 12 => ⟨S_, .i32⟩
  | 13 => ⟨S64, .i32⟩
  | 14 => ⟨S64, .i1⟩
  | 15 => ⟨S_, .i32⟩
  | 16 => ⟨S64, .i32⟩
  | 17 => ⟨S64, .i32⟩
  | 18 => ⟨S64, .i32⟩
  | 19 => ⟨S64x1, .i32⟩
  | 20 => ⟨S64x32, .f32⟩
  | 21 => ⟨S64x1, .i32⟩
  | 22 => ⟨S64, .i32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S64, .i32⟩
  | 30 => ⟨S64x1, .i32⟩
  | 31 => ⟨S64x32, .f32⟩
  | 32 => ⟨S64x96, .f32⟩
  | 33 => ⟨S96x32, .f32⟩
  | 34 => ⟨S64x32, .f32⟩
  | 35 => ⟨S1x32, .f32⟩
  | 36 => ⟨S64x32, .f32⟩
  | 37 => ⟨S64x32, .f32⟩
  | 38 => ⟨S_, .f32⟩
  | 39 => ⟨S64x32, .f32⟩
  | 40 => ⟨S64x32, .f32⟩
  | 41 => ⟨S32x64, .f32⟩
  | 42 => ⟨S64x32, .f32⟩
  | 43 => ⟨S32x32, .f32⟩
  | 44 => ⟨S1x32, .f32⟩
  | 45 => ⟨S32x32, .f32⟩
  | 46 => ⟨S32x32, .f32⟩
  | 47 => ⟨S_, .f32⟩
  | 48 => ⟨S32x32, .f32⟩
  | 49 => ⟨S32x32, .f32⟩
  | 50 => ⟨S32x2, .i32⟩
  | 51 => ⟨S32x1, .i32⟩
  | 52 => ⟨S32, .i32⟩
  | 53 => ⟨S_, .i32⟩
  | 54 => ⟨S32, .i32⟩
  | 55 => ⟨S32, .i1⟩
  | 56 => ⟨S_, .i32⟩
  | 57 => ⟨S32, .i32⟩
  | 58 => ⟨S32, .i32⟩
  | 59 => ⟨S32, .i32⟩
  | 60 => ⟨S32x1, .i32⟩
  | 61 => ⟨S32x32, .f32⟩
  | 62 => ⟨S32x1, .i32⟩
  | 63 => ⟨S32, .i32⟩
  | 64 => ⟨S_, .i32⟩
  | 65 => ⟨S32, .i32⟩
  | 66 => ⟨S32, .i1⟩
  | 67 => ⟨S_, .i32⟩
  | 68 => ⟨S32, .i32⟩
  | 69 => ⟨S32, .i32⟩
  | 70 => ⟨S32, .i32⟩
  | 71 => ⟨S32x1, .i32⟩
  | 72 => ⟨S32x32, .f32⟩
  | 73 => ⟨S32x96, .f32⟩
  | 74 => ⟨S96x32, .f32⟩
  | 75 => ⟨S32x32, .f32⟩
  | 76 => ⟨S1x32, .f32⟩
  | 77 => ⟨S32x32, .f32⟩
  | 78 => ⟨S32x32, .f32⟩
  | 79 => ⟨S_, .f32⟩
  | 80 => ⟨S32x32, .f32⟩
  | 81 => ⟨S32x32, .f32⟩
  | 82 => ⟨S16x64, .f32⟩
  | 83 => ⟨S64x32, .f32⟩
  | 84 => ⟨S16x32, .f32⟩
  | 85 => ⟨S1x32, .f32⟩
  | 86 => ⟨S16x32, .f32⟩
  | 87 => ⟨S16x32, .f32⟩
  | 88 => ⟨S_, .f32⟩
  | 89 => ⟨S16x32, .f32⟩
  | 90 => ⟨S16x32, .f32⟩
  | 91 => ⟨S16x2, .i32⟩
  | 92 => ⟨S16x1, .i32⟩
  | 93 => ⟨S16, .i32⟩
  | 94 => ⟨S_, .i32⟩
  | 95 => ⟨S16, .i32⟩
  | 96 => ⟨S16, .i1⟩
  | 97 => ⟨S_, .i32⟩
  | 98 => ⟨S16, .i32⟩
  | 99 => ⟨S16, .i32⟩
  | 100 => ⟨S16, .i32⟩
  | 101 => ⟨S16x1, .i32⟩
  | 102 => ⟨S16x32, .f32⟩
  | 103 => ⟨S16x1, .i32⟩
  | 104 => ⟨S16, .i32⟩
  | 105 => ⟨S_, .i32⟩
  | 106 => ⟨S16, .i32⟩
  | 107 => ⟨S16, .i1⟩
  | 108 => ⟨S_, .i32⟩
  | 109 => ⟨S16, .i32⟩
  | 110 => ⟨S16, .i32⟩
  | 111 => ⟨S16, .i32⟩
  | 112 => ⟨S16x1, .i32⟩
  | 113 => ⟨S16x32, .f32⟩
  | 114 => ⟨S16x96, .f32⟩
  | 115 => ⟨S96x32, .f32⟩
  | 116 => ⟨S16x32, .f32⟩
  | 117 => ⟨S1x32, .f32⟩
  | 118 => ⟨S16x32, .f32⟩
  | 119 => ⟨S16x32, .f32⟩
  | 120 => ⟨S_, .f32⟩
  | 121 => ⟨S16x32, .f32⟩
  | 122 => ⟨S16x32, .f32⟩
  | _ => ⟨S131056x64, .f32⟩

abbrev hbmTy (i : Nat) : BufTy := match i / 128 with
  | 0 => hbmTy0_0 i
  | 1 => hbmTy0_1 i
  | 2 => hbmTy0_2 i
  | 3 => hbmTy0_3 i
  | _ => ⟨S131056x64, .f32⟩

abbrev bufTy : (tb : Table) → Fin (tcTables nBuf tb) → BufTy
  | .hbm, ⟨i, _⟩ => hbmTy i
  | _, _ => ⟨S131056x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call2_cst : Ref sig .tc := ⟨.hbm, 53, rfl⟩
abbrev main_call2_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call3_cst : Ref sig .tc := ⟨.hbm, 62, rfl⟩
abbrev main_call3_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_3 : Ref sig .tc := ⟨.hbm, 68, rfl⟩
abbrev main_v50 : Ref sig .tc := ⟨.hbm, 69, rfl⟩
abbrev main_v51 : Ref sig .tc := ⟨.hbm, 70, rfl⟩
abbrev main_c_4 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_5 : Ref sig .tc := ⟨.hbm, 79, rfl⟩
abbrev main_v59 : Ref sig .tc := ⟨.hbm, 80, rfl⟩
abbrev main_v60 : Ref sig .tc := ⟨.hbm, 81, rfl⟩
abbrev main_c_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call4_cst : Ref sig .tc := ⟨.hbm, 94, rfl⟩
abbrev main_call4_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call5_cst : Ref sig .tc := ⟨.hbm, 103, rfl⟩
abbrev main_call5_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_7 : Ref sig .tc := ⟨.hbm, 109, rfl⟩
abbrev main_v83 : Ref sig .tc := ⟨.hbm, 110, rfl⟩
abbrev main_v84 : Ref sig .tc := ⟨.hbm, 111, rfl⟩
abbrev main_c_8 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_9 : Ref sig .tc := ⟨.hbm, 120, rfl⟩
abbrev main_v92 : Ref sig .tc := ⟨.hbm, 121, rfl⟩
abbrev main_v93 : Ref sig .tc := ⟨.hbm, 122, rfl⟩
abbrev main_c_10 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_call6_cst : Ref sig .tc := ⟨.hbm, 135, rfl⟩
abbrev main_call6_v0 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_call7_cst : Ref sig .tc := ⟨.hbm, 144, rfl⟩
abbrev main_call7_v0 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_11 : Ref sig .tc := ⟨.hbm, 150, rfl⟩
abbrev main_v116 : Ref sig .tc := ⟨.hbm, 151, rfl⟩
abbrev main_v117 : Ref sig .tc := ⟨.hbm, 152, rfl⟩
abbrev main_c_12 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_13 : Ref sig .tc := ⟨.hbm, 161, rfl⟩
abbrev main_v125 : Ref sig .tc := ⟨.hbm, 162, rfl⟩
abbrev main_v126 : Ref sig .tc := ⟨.hbm, 163, rfl⟩
abbrev main_c_14 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_call8_cst : Ref sig .tc := ⟨.hbm, 176, rfl⟩
abbrev main_call8_v0 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_call9_cst : Ref sig .tc := ⟨.hbm, 185, rfl⟩
abbrev main_call9_v0 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_c_15 : Ref sig .tc := ⟨.hbm, 191, rfl⟩
abbrev main_v149 : Ref sig .tc := ⟨.hbm, 192, rfl⟩
abbrev main_v150 : Ref sig .tc := ⟨.hbm, 193, rfl⟩
abbrev main_c_16 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_c_17 : Ref sig .tc := ⟨.hbm, 202, rfl⟩
abbrev main_v158 : Ref sig .tc := ⟨.hbm, 203, rfl⟩
abbrev main_v159 : Ref sig .tc := ⟨.hbm, 204, rfl⟩
abbrev main_c_18 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_call10_cst : Ref sig .tc := ⟨.hbm, 217, rfl⟩
abbrev main_call10_v0 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_call11_cst : Ref sig .tc := ⟨.hbm, 226, rfl⟩
abbrev main_call11_v0 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_c_19 : Ref sig .tc := ⟨.hbm, 232, rfl⟩
abbrev main_v182 : Ref sig .tc := ⟨.hbm, 233, rfl⟩
abbrev main_v183 : Ref sig .tc := ⟨.hbm, 234, rfl⟩
abbrev main_c_20 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_c_21 : Ref sig .tc := ⟨.hbm, 243, rfl⟩
abbrev main_v191 : Ref sig .tc := ⟨.hbm, 244, rfl⟩
abbrev main_v192 : Ref sig .tc := ⟨.hbm, 245, rfl⟩
abbrev main_c_22 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_call12_cst : Ref sig .tc := ⟨.hbm, 258, rfl⟩
abbrev main_call12_v0 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_call13_cst : Ref sig .tc := ⟨.hbm, 267, rfl⟩
abbrev main_call13_v0 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_c_23 : Ref sig .tc := ⟨.hbm, 273, rfl⟩
abbrev main_v215 : Ref sig .tc := ⟨.hbm, 274, rfl⟩
abbrev main_v216 : Ref sig .tc := ⟨.hbm, 275, rfl⟩
abbrev main_c_24 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_c_25 : Ref sig .tc := ⟨.hbm, 284, rfl⟩
abbrev main_v224 : Ref sig .tc := ⟨.hbm, 285, rfl⟩
abbrev main_v225 : Ref sig .tc := ⟨.hbm, 286, rfl⟩
abbrev main_c_26 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_call14_cst : Ref sig .tc := ⟨.hbm, 299, rfl⟩
abbrev main_call14_v0 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_call15_cst : Ref sig .tc := ⟨.hbm, 308, rfl⟩
abbrev main_call15_v0 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_c_27 : Ref sig .tc := ⟨.hbm, 314, rfl⟩
abbrev main_v248 : Ref sig .tc := ⟨.hbm, 315, rfl⟩
abbrev main_v249 : Ref sig .tc := ⟨.hbm, 316, rfl⟩
abbrev main_c_28 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_c_29 : Ref sig .tc := ⟨.hbm, 325, rfl⟩
abbrev main_v257 : Ref sig .tc := ⟨.hbm, 326, rfl⟩
abbrev main_v258 : Ref sig .tc := ⟨.hbm, 327, rfl⟩
abbrev main_c_30 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_call16_cst : Ref sig .tc := ⟨.hbm, 340, rfl⟩
abbrev main_call16_v0 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_call17_cst : Ref sig .tc := ⟨.hbm, 349, rfl⟩
abbrev main_call17_v0 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_c_31 : Ref sig .tc := ⟨.hbm, 355, rfl⟩
abbrev main_v281 : Ref sig .tc := ⟨.hbm, 356, rfl⟩
abbrev main_v282 : Ref sig .tc := ⟨.hbm, 357, rfl⟩
abbrev main_c_32 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_c_33 : Ref sig .tc := ⟨.hbm, 366, rfl⟩
abbrev main_v290 : Ref sig .tc := ⟨.hbm, 367, rfl⟩
abbrev main_v291 : Ref sig .tc := ⟨.hbm, 368, rfl⟩
abbrev main_c_34 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_call18_cst : Ref sig .tc := ⟨.hbm, 381, rfl⟩
abbrev main_call18_v0 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_v308 : Ref sig .tc := ⟨.hbm, 388, rfl⟩
abbrev main_v309 : Ref sig .tc := ⟨.hbm, 389, rfl⟩
abbrev main_call19_cst : Ref sig .tc := ⟨.hbm, 390, rfl⟩
abbrev main_call19_v0 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_c_35 : Ref sig .tc := ⟨.hbm, 396, rfl⟩
abbrev main_v314 : Ref sig .tc := ⟨.hbm, 397, rfl⟩
abbrev main_v315 : Ref sig .tc := ⟨.hbm, 398, rfl⟩
abbrev main_c_36 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_c_37 : Ref sig .tc := ⟨.hbm, 407, rfl⟩
abbrev main_v323 : Ref sig .tc := ⟨.hbm, 408, rfl⟩
abbrev main_v324 : Ref sig .tc := ⟨.hbm, 409, rfl⟩
abbrev main_c_38 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_v334 : Ref sig .tc := ⟨.hbm, 420, rfl⟩
abbrev main_v335 : Ref sig .tc := ⟨.hbm, 421, rfl⟩
abbrev main_call20_cst : Ref sig .tc := ⟨.hbm, 422, rfl⟩
abbrev main_call20_v0 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_v340 : Ref sig .tc := ⟨.hbm, 428, rfl⟩
abbrev main_v341 : Ref sig .tc := ⟨.hbm, 429, rfl⟩
abbrev main_v342 : Ref sig .tc := ⟨.hbm, 430, rfl⟩
abbrev main_call21_cst : Ref sig .tc := ⟨.hbm, 431, rfl⟩
abbrev main_call21_v0 : Ref sig .tc := ⟨.hbm, 432, rfl⟩
abbrev main_v343 : Ref sig .tc := ⟨.hbm, 433, rfl⟩
abbrev main_v344 : Ref sig .tc := ⟨.hbm, 434, rfl⟩
abbrev main_v345 : Ref sig .tc := ⟨.hbm, 435, rfl⟩
abbrev main_v346 : Ref sig .tc := ⟨.hbm, 436, rfl⟩
abbrev main_c_39 : Ref sig .tc := ⟨.hbm, 437, rfl⟩
abbrev main_v347 : Ref sig .tc := ⟨.hbm, 438, rfl⟩
abbrev main_v348 : Ref sig .tc := ⟨.hbm, 439, rfl⟩
abbrev main_c_40 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_c_41 : Ref sig .tc := ⟨.hbm, 448, rfl⟩
abbrev main_v356 : Ref sig .tc := ⟨.hbm, 449, rfl⟩
abbrev main_v357 : Ref sig .tc := ⟨.hbm, 450, rfl⟩
abbrev main_c_42 : Ref sig .tc := ⟨.hbm, 451, rfl⟩
abbrev main_v358 : Ref sig .tc := ⟨.hbm, 452, rfl⟩
abbrev main_v359 : Ref sig .tc := ⟨.hbm, 453, rfl⟩
abbrev main_v360 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_v364 : Ref sig .tc := ⟨.hbm, 458, rfl⟩
abbrev main_v365 : Ref sig .tc := ⟨.hbm, 459, rfl⟩
abbrev main_v366 : Ref sig .tc := ⟨.hbm, 460, rfl⟩
abbrev main_v367 : Ref sig .tc := ⟨.hbm, 461, rfl⟩
abbrev main_v368 : Ref sig .tc := ⟨.hbm, 462, rfl⟩
abbrev main_call22_cst : Ref sig .tc := ⟨.hbm, 463, rfl⟩
abbrev main_call22_v0 : Ref sig .tc := ⟨.hbm, 464, rfl⟩
abbrev main_v369 : Ref sig .tc := ⟨.hbm, 465, rfl⟩
abbrev main_v370 : Ref sig .tc := ⟨.hbm, 466, rfl⟩
abbrev main_v371 : Ref sig .tc := ⟨.hbm, 467, rfl⟩
abbrev main_v372 : Ref sig .tc := ⟨.hbm, 468, rfl⟩
abbrev main_v373 : Ref sig .tc := ⟨.hbm, 469, rfl⟩
abbrev main_v374 : Ref sig .tc := ⟨.hbm, 470, rfl⟩
abbrev main_v375 : Ref sig .tc := ⟨.hbm, 471, rfl⟩
abbrev main_call23_cst : Ref sig .tc := ⟨.hbm, 472, rfl⟩
abbrev main_call23_v0 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_v379 : Ref sig .tc := ⟨.hbm, 477, rfl⟩
abbrev main_c_43 : Ref sig .tc := ⟨.hbm, 478, rfl⟩
abbrev main_v380 : Ref sig .tc := ⟨.hbm, 479, rfl⟩
abbrev main_v381 : Ref sig .tc := ⟨.hbm, 480, rfl⟩
abbrev main_c_44 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_c_45 : Ref sig .tc := ⟨.hbm, 489, rfl⟩
abbrev main_v389 : Ref sig .tc := ⟨.hbm, 490, rfl⟩
abbrev main_v390 : Ref sig .tc := ⟨.hbm, 491, rfl⟩
abbrev main_c_46 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_v399 : Ref sig .tc := ⟨.hbm, 501, rfl⟩
abbrev main_v400 : Ref sig .tc := ⟨.hbm, 502, rfl⟩
abbrev main_v401 : Ref sig .tc := ⟨.hbm, 503, rfl⟩
abbrev main_call24_cst : Ref sig .tc := ⟨.hbm, 504, rfl⟩
abbrev main_call24_v0 : Ref sig .tc := ⟨.hbm, 505, rfl⟩
abbrev main_v402 : Ref sig .tc := ⟨.hbm, 506, rfl⟩

abbrev nD : Nat := 1
abbrev τ : Topo := Topo.v7x

variable {F : FTy → Type} [FloatOps F]
-- ==== Proof.Held.lean ====
/-
  Vocabulary shared by the three runs of the kernel's body: a memref's own elements held whole at given contents, and the
  type of those contents.
-/
module

public import proofs.«01_k».proof.Proof.Gen.KernelIdeal.Frame
public import proofs.«01_k».proof.Proof.Gen.KernelIdeal.Skeleton

@[expose] public section

noncomputable section

namespace Cert.KernelIdeal.Body

open Cert.KernelIdeal Cert.KernelIdeal.Gen
open Idealize.ShloMosaic Idealize.ShloMosaic.TcCoe
open Idealize.SL Idealize.SL.RA Idealize.SL.BI
open Idealize.ShloMosaic.Rounds

variable {F : FTy → Type} [FloatOps F]

/-- The body's first condition: the grid point is the first one, where the weights are laid out. -/
abbrev AtFirst (i : grid0.Coords) : Prop :=
  (Scalar.cmpi .ne (Scalar.extui (Scalar.cmpi .eq (BitVec.ofNat 32 (i 0).val) 0#32) : BitVec 32) 0#32 : BitVec 1) = 1#1

/-- What the buffer behind the memref `M` may hold on core `c`. -/
abbrev Bf (F : FTy → Type) (c : Dev nD) {S : Shape} {e : EltTy} (M : Memref sig .tc .vmem S e) : Type :=
  Buf (Elt F) (M.view.loc (c : Thread nD τ))

/-- The elements of the memref `M` on core `c`, held whole at the contents `f`. -/
abbrev pt (c : Dev nD) {S : Shape} {e : EltTy} (M : Memref sig .tc .vmem S e) (f : Bf F c M) :
    sProp (MT nD τ sig Unit (Elt F) ℕ (UR sig nD τ) ℕ) :=
  M.view.loc (c : Thread nD τ) ↦[M.view.set]{fullShare} f

/-- A list of stores through rectangles of the shape `S`, the last one first. -/
abbrev Pieces (F : FTy → Type) (S : Shape) : Type := List (View.Piece (Elt F) S .f32)

end Cert.KernelIdeal.Body

end
-- ==== Proof.RunFirst.lean ====
/-
  The kernel's body at its first grid point, where it lays the weights out and embeds the first strip of nodes: run once, at any
  operands. What it stores is found by the run.
-/
module

public import proofs.«01_k».proof.Proof.Held

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The first point's run: from the blocks of contents `f1` … `f8` and the problem's weights `f9` … `f12`, the body leaves the
    embeddings' buffer and the six laid-out weights at the stores found, the others as they were. -/
def runFirst (c : Dev nD) (i : grid0.Coords)
    (arg1 : Memref sig .tc .vmem S2048x64 .f32) (harg1 : arg1.IsWhole) (arg2 : Memref sig .tc .vmem S2048x64 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole) (arg6 : Memref sig .tc .vmem S2048x64 .f32) (harg6 : arg6.IsWhole)
    (arg7 : Memref sig .tc .vmem S2048x64 .f32) (harg7 : arg7.IsWhole) (arg8 : Memref sig .tc .vmem S2048x64 .f32) (harg8 : arg8.IsWhole)
    (arg9 : Memref sig .tc .vmem S32x64 .f32) (harg9 : arg9.IsWhole) (arg10 : Memref sig .tc .vmem S1x32 .f32) (harg10 : arg10.IsWhole)
    (arg11 : Memref sig .tc .vmem S32x96 .f32) (harg11 : arg11.IsWhole) (arg12 : Memref sig .tc .vmem S1x32 .f32) (harg12 : arg12.IsWhole)
    (arg13 : Memref sig .tc .vmem S16x32 .f32) (harg13 : arg13.IsWhole) (arg14 : Memref sig .tc .vmem S32768x128 .f32) (harg14 : arg14.IsWhole)
    (arg15 : Memref sig .tc .vmem S8192x128 .f32) (harg15 : arg15.IsWhole) (arg16 : Memref sig .tc .vmem S4096x128 .f32) (harg16 : arg16.IsWhole)
    (arg17 : Memref sig .tc .vmem S256x128 .f32) (harg17 : arg17.IsWhole) (arg18 : Memref sig .tc .vmem S128x128 .f32) (harg18 : arg18.IsWhole)
    (arg19 : Memref sig .tc .vmem S128x128 .f32) (harg19 : arg19.IsWhole) (arg20 : Memref sig .tc .vmem S128x128 .f32) (harg20 : arg20.IsWhole)
    (arg21 : Memref sig .tc .vmem S1x128 .f32) (harg21 : arg21.IsWhole) (arg22 : Memref sig .tc .vmem S1x128 .f32) (harg22 : arg22.IsWhole)
    (hc1 : AtFirst i) (hc2 : k0_cond2 i = 1#1) (hc3 : ¬ k0_cond3 i = 1#1)
    (f1 : Bf F c arg1) (f2 : Bf F c arg2) (f3 : Bf F c arg3) (f4 : Bf F c arg4) (f5 : Bf F c arg5) (f6 : Bf F c arg6) (f7 : Bf F c arg7) (f8 : Bf F c arg8) (f9 : Bf F c arg9) (f10 : Bf F c arg10) (f11 : Bf F c arg11) (f12 : Bf F c arg12) :
    { L : Pieces F S32768x128 × Pieces F S256x128 × Pieces F S128x128 × Pieces F S128x128 × Pieces F S128x128 × Pieces F S1x128 × Pieces F S1x128 //
      ∀ (f14 : Bf F c arg14) (f17 : Bf F c arg17) (f18 : Bf F c arg18) (f19 : Bf F c arg19) (f20 : Bf F c arg20) (f21 : Bf F c arg21) (f22 : Bf F c arg22) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg14 f14 ∗ pt c arg17 f17 ∗ pt c arg18 f18 ∗ pt c arg19 f19 ∗ pt c arg20 f20 ∗ pt c arg21 f21 ∗ pt c arg22 f22
            ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg14 (arg14.view.writes (Elt F) f14 L.1) ∗ pt c arg17 (arg17.view.writes (Elt F) f17 L.2.1) ∗ pt c arg18 (arg18.view.writes (Elt F) f18 L.2.2.1) ∗ pt c arg19 (arg19.view.writes (Elt F) f19 L.2.2.2.1) ∗ pt c arg20 (arg20.view.writes (Elt F) f20 L.2.2.2.2.1) ∗ pt c arg21 (arg21.view.writes (Elt F) f21 L.2.2.2.2.2.1) ∗ pt c arg22 (arg22.view.writes (Elt F) f22 L.2.2.2.2.2.2)) -∗ Q ⟨⟩))
          ⊢ wp frame (wpE (defs₀ (F := F)) Variants.none c none) Set.univ
              (cc0__grnn_kernel i arg1 harg1 arg2 harg2 arg3 harg3 arg4 harg4 arg5 harg5 arg6 harg6 arg7 harg7 arg8 harg8
                arg9 harg9 arg10 harg10 arg11 harg11 arg12 harg12 arg13 harg13 arg14 harg14 arg15 harg15 arg16 harg16
                arg17 harg17 arg18 harg18 arg19 harg19 arg20 harg20 arg21 harg21 arg22 harg22) Q } := by
  refine ⟨(?_, ?_, ?_, ?_, ?_, ?_, ?_), fun f14 f17 f18 f19 f20 f21 f22 Q => ?run⟩
  case run =>
    dsimp only
    iintro ⟨H1, H2, H3, H4, H5, H6, H7, H8, H9, H10, H11, H12, H14, H17, H18, H19, H20, H21, H22, Hk⟩
    rw [cc0__grnn_kernel_eq_skeleton]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H17]; · iexact H17
    isplitl [H18]; · iexact H18
    isplitl [H19]; · iexact H19
    isplitl [H20]; · iexact H20
    isplitl [H21]; · iexact H21
    iexact H22

end Cert.KernelIdeal.Body

end
-- ==== Proof.RunLeaf.lean ====
/-
  The kernel's body at a grid point between the first and the last, where it embeds one strip of nodes: run once, at any operands.
  What it stores is found by the run.
-/
module

public import proofs.«01_k».proof.Proof.Held

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- A middle point's run: from the eight blocks of contents `f1` … `f8` and the leaf weights `f17`, `f21`, the body leaves the
    embeddings' buffer at the stores found, the others as they were. -/
def runLeaf (c : Dev nD) (i : grid0.Coords)
    (arg1 : Memref sig .tc .vmem S2048x64 .f32) (harg1 : arg1.IsWhole) (arg2 : Memref sig .tc .vmem S2048x64 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole) (arg6 : Memref sig .tc .vmem S2048x64 .f32) (harg6 : arg6.IsWhole)
    (arg7 : Memref sig .tc .vmem S2048x64 .f32) (harg7 : arg7.IsWhole) (arg8 : Memref sig .tc .vmem S2048x64 .f32) (harg8 : arg8.IsWhole)
    (arg9 : Memref sig .tc .vmem S32x64 .f32) (harg9 : arg9.IsWhole) (arg10 : Memref sig .tc .vmem S1x32 .f32) (harg10 : arg10.IsWhole)
    (arg11 : Memref sig .tc .vmem S32x96 .f32) (harg11 : arg11.IsWhole) (arg12 : Memref sig .tc .vmem S1x32 .f32) (harg12 : arg12.IsWhole)
    (arg13 : Memref sig .tc .vmem S16x32 .f32) (harg13 : arg13.IsWhole) (arg14 : Memref sig .tc .vmem S32768x128 .f32) (harg14 : arg14.IsWhole)
    (arg15 : Memref sig .tc .vmem S8192x128 .f32) (harg15 : arg15.IsWhole) (arg16 : Memref sig .tc .vmem S4096x128 .f32) (harg16 : arg16.IsWhole)
    (arg17 : Memref sig .tc .vmem S256x128 .f32) (harg17 : arg17.IsWhole) (arg18 : Memref sig .tc .vmem S128x128 .f32) (harg18 : arg18.IsWhole)
    (arg19 : Memref sig .tc .vmem S128x128 .f32) (harg19 : arg19.IsWhole) (arg20 : Memref sig .tc .vmem S128x128 .f32) (harg20 : arg20.IsWhole)
    (arg21 : Memref sig .tc .vmem S1x128 .f32) (harg21 : arg21.IsWhole) (arg22 : Memref sig .tc .vmem S1x128 .f32) (harg22 : arg22.IsWhole)
    (hc1 : ¬ AtFirst i) (hc2 : k0_cond2 i = 1#1) (hc3 : ¬ k0_cond3 i = 1#1)
    (f1 : Bf F c arg1) (f2 : Bf F c arg2) (f3 : Bf F c arg3) (f4 : Bf F c arg4) (f5 : Bf F c arg5) (f6 : Bf F c arg6) (f7 : Bf F c arg7) (f8 : Bf F c arg8) (f17 : Bf F c arg17) (f21 : Bf F c arg21) :
    { L : Pieces F S32768x128 //
      ∀ (f14 : Bf F c arg14) (Q : PUnit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg14 f14 ∗ pt c arg17 f17 ∗ pt c arg21 f21
            ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg14 (arg14.view.writes (Elt F) f14 L) ∗ pt c arg17 f17 ∗ pt c arg21 f21) -∗ Q ⟨⟩))
          ⊢ wp frame (wpE (defs₀ (F := F)) Variants.none c none) Set.univ
              (cc0__grnn_kernel i arg1 harg1 arg2 harg2 arg3 harg3 arg4 harg4 arg5 harg5 arg6 harg6 arg7 harg7 arg8 harg8
                arg9 harg9 arg10 harg10 arg11 harg11 arg12 harg12 arg13 harg13 arg14 harg14 arg15 harg15 arg16 harg16
                arg17 harg17 arg18 harg18 arg19 harg19 arg20 harg20 arg21 harg21 arg22 harg22) Q } := by
  refine ⟨?_, fun f14 Q => ?run⟩
  case run =>
    dsimp only
    iintro ⟨H1, H2, H3, H4, H5, H6, H7, H8, H14, H17, H21, Hk⟩
    rw [cc0__grnn_kernel_eq_skeleton]
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H14]; · iexact H14
    isplitl [H17]; · iexact H17
    iexact H21

end Cert.KernelIdeal.Body

end
-- ==== Proof.RunTree.lean ====
/-
  The kernel's body at its last grid point, where it walks the tree from the level above the leaves up to the roots: run once, at
  any operands. What it stores is found by the run.
-/
module

public import proofs.«01_k».proof.Proof.Held

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 0 in
/-- The last point's run: from the leaves' embeddings `f14`, the weights `f18` … `f22`, and the result's buffer and the two level
    buffers at anything, the body leaves the three written buffers at the stores found, the others as they were. -/
def runTree (c : Dev nD) (i : grid0.Coords)
    (arg1 : Memref sig .tc .vmem S2048x64 .f32) (harg1 : arg1.IsWhole) (arg2 : Memref sig .tc .vmem S2048x64 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole) (arg6 : Memref sig .tc .vmem S2048x64 .f32) (harg6 : arg6.IsWhole)
    (arg7 : Memref sig .tc .vmem S2048x64 .f32) (harg7 : arg7.IsWhole) (arg8 : Memref sig .tc .vmem S2048x64 .f32) (harg8 : arg8.IsWhole)
    (arg9 : Memref sig .tc .vmem S32x64 .f32) (harg9 : arg9.IsWhole) (arg10 : Memref sig .tc .vmem S1x32 .f32) (harg10 : arg10.IsWhole)
    (arg11 : Memref sig .tc .vmem S32x96 .f32) (harg11 : arg11.IsWhole) (arg12 : Memref sig .tc .vmem S1x32 .f32) (harg12 : arg12.IsWhole)
    (arg13 : Memref sig .tc .vmem S16x32 .f32) (harg13 : arg13.IsWhole) (arg14 : Memref sig .tc .vmem S32768x128 .f32) (harg14 : arg14.IsWhole)
    (arg15 : Memref sig .tc .vmem S8192x128 .f32) (harg15 : arg15.IsWhole) (arg16 : Memref sig .tc .vmem S4096x128 .f32) (harg16 : arg16.IsWhole)
    (arg17 : Memref sig .tc .vmem S256x128 .f32) (harg17 : arg17.IsWhole) (arg18 : Memref sig .tc .vmem S128x128 .f32) (harg18 : arg18.IsWhole)
    (arg19 : Memref sig .tc .vmem S128x128 .f32) (harg19 : arg19.IsWhole) (arg20 : Memref sig .tc .vmem S128x128 .f32) (harg20 : arg20.IsWhole)
    (arg21 : Memref sig .tc .vmem S1x128 .f32) (harg21 : arg21.IsWhole) (arg22 : Memref sig .tc .vmem S1x128 .f32) (harg22 : arg22.IsWhole)
    (hc1 : ¬ AtFirst i)
    (hc2 : ¬ k0_cond2 i = 1#1) (hc3 : k0_cond3 i = 1#1)
    (f14 : Bf F c arg14) (f18 : Bf F c arg18) (f19 : Bf F c arg19) (f20 : Bf F c arg20) (f22 : Bf F c arg22) :
    { L : Pieces F S16x32 × Pieces F S8192x128 × Pieces F S4096x128 //
      ∀ (f13 : Bf F c arg13) (f15 : Bf F c arg15) (f16 : Bf F c arg16) (Q : PUnit → sProp 𝕄),
        iprop(pt c arg13 f13 ∗ pt c arg14 f14 ∗ pt c arg15 f15 ∗ pt c arg16 f16
            ∗ pt c arg18 f18 ∗ pt c arg19 f19 ∗ pt c arg20 f20 ∗ pt c arg22 f22
            ∗ (iprop(pt c arg13 (arg13.view.writes (Elt F) f13 L.1) ∗ pt c arg14 f14
                ∗ pt c arg15 (arg15.view.writes (Elt F) f15 L.2.1) ∗ pt c arg16 (arg16.view.writes (Elt F) f16 L.2.2)
                ∗ pt c arg18 f18 ∗ pt c arg19 f19 ∗ pt c arg20 f20 ∗ pt c arg22 f22) -∗ Q ⟨⟩))
          ⊢ wp frame (wpE (defs₀ (F := F)) Variants.none c none) Set.univ
              (cc0__grnn_kernel i arg1 harg1 arg2 harg2 arg3 harg3 arg4 harg4 arg5 harg5 arg6 harg6 arg7 harg7 arg8 harg8
                arg9 harg9 arg10 harg10 arg11 harg11 arg12 harg12 arg13 harg13 arg14 harg14 arg15 harg15 arg16 harg16
                arg17 harg17 arg18 harg18 arg19 harg19 arg20 harg20 arg21 harg21 arg22 harg22) Q } := by
  refine ⟨(?_, ?_, ?_), fun f13 f15 f16 Q => ?run⟩
  case run =>
    dsimp only
    iintro ⟨H13, H14, H15, H16, H18, H19, H20, H22, Hk⟩
    rw [cc0__grnn_kernel_eq_skeleton]
    sl_exec_parts
    sl_step
    iapply Hk
    isplitl [H13]; · iexact H13
    isplitl [H14]; · iexact H14
    isplitl [H15]; · iexact H15
    isplitl [H16]; · iexact H16
    isplitl [H18]; · iexact H18
    isplitl [H19]; · iexact H19
    isplitl [H20]; · iexact H20
    iexact H22

end Cert.KernelIdeal.Body

end
-- ==== Proof.Body.lean ====
/-
  The kernel's body at each grid point, as the pipeline calls it: from the twelve input blocks, the result's buffer and the nine
  scratch buffers, it runs, leaves the inputs as they were, and leaves the rest at contents for which any relation holds that
  holds of what the run found. One lemma per kind of point; each opens the ownerships, applies the run, closes them.
-/
module

public import proofs.«01_k».proof.Proof.RunFirst
public import proofs.«01_k».proof.Proof.RunLeaf
public import proofs.«01_k».proof.Proof.RunTree

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Contents of nine buffers, each of its own type. -/
structure Nine (A B C D E G I J K : Type) where
  /-- the embeddings, four nodes to a row -/
  u4 : A
  /-- one level of the tree, the odd ones -/
  qa : B
  /-- one level of the tree, the even ones -/
  qb : C
  /-- the leaf weights, four times along the diagonal -/
  wu : D
  /-- the children's weights into groups 0 and 1 -/
  lo : E
  /-- the children's weights into groups 2 and 3 -/
  hi : G
  /-- the node's own weights, four times along the diagonal -/
  wc : I
  /-- the leaf bias, four times -/
  bu : J
  /-- the tree's bias, four times -/
  bh : K

/-- What the nine scratch buffers hold between grid points. -/
abbrev Held (F : FTy → Type) (c : Dev nD) : Type :=
  Nine (Bf F c (Memref.whole cc0_scratch0)) (Bf F c (Memref.whole cc0_scratch1)) (Bf F c (Memref.whole cc0_scratch2)) (Bf F c (Memref.whole cc0_scratch3)) (Bf F c (Memref.whole cc0_scratch4)) (Bf F c (Memref.whole cc0_scratch5)) (Bf F c (Memref.whole cc0_scratch6)) (Bf F c (Memref.whole cc0_scratch7)) (Bf F c (Memref.whole cc0_scratch8))

/-- The nine scratch buffers owned at the contents `H`. -/
def held (c : Dev nD) (H : Held F c) : sProp 𝕄 :=
  iprop(pt c (Memref.whole cc0_scratch0) H.u4 ∗ pt c (Memref.whole cc0_scratch1) H.qa ∗ pt c (Memref.whole cc0_scratch2) H.qb ∗ pt c (Memref.whole cc0_scratch3) H.wu ∗ pt c (Memref.whole cc0_scratch4) H.lo ∗ pt c (Memref.whole cc0_scratch5) H.hi ∗ pt c (Memref.whole cc0_scratch6) H.wc ∗ pt c (Memref.whole cc0_scratch7) H.bu ∗ pt c (Memref.whole cc0_scratch8) H.bh)

/-- The twelve input blocks' buffers at point `t`, owned at the contents `X1` … `X12`. -/
def inputs (c : Dev nD) (t : Fin cfg0.N) (X1 : Vec F S2048x64 .f32) (X2 : Vec F S2048x64 .f32) (X3 : Vec F S2048x64 .f32) (X4 : Vec F S2048x64 .f32) (X5 : Vec F S2048x64 .f32) (X6 : Vec F S2048x64 .f32) (X7 : Vec F S2048x64 .f32) (X8 : Vec F S2048x64 .f32) (X9 : Vec F S32x64 .f32) (X10 : Vec F S1x32 .f32) (X11 : Vec F S32x96 .f32) (X12 : Vec F S1x32 .f32) : sProp 𝕄 :=
  iprop(owns c (st0_0 t) fullShare X1 ∗ owns c (st0_1 t) fullShare X2 ∗ owns c (st0_2 t) fullShare X3 ∗ owns c (st0_3 t) fullShare X4 ∗ owns c (st0_4 t) fullShare X5 ∗ owns c (st0_5 t) fullShare X6 ∗ owns c (st0_6 t) fullShare X7 ∗ owns c (st0_7 t) fullShare X8 ∗ owns c (st0_8 t) fullShare X9 ∗ owns c (st0_9 t) fullShare X10 ∗ owns c (st0_10 t) fullShare X11 ∗ owns c (st0_11 t) fullShare X12)

/-- The run of the first point, at the buffers the pipeline hands the body. -/
abbrev firstAt (c : Dev nD) (t : Fin cfg0.N) (hc1 : AtFirst (grid0.coords t)) (hc2 : k0_cond2 (grid0.coords t) = 1#1) (hc3 : ¬ k0_cond3 (grid0.coords t) = 1#1)
    (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) (f9 : Bf F c (st0_8 t)) (f10 : Bf F c (st0_9 t)) (f11 : Bf F c (st0_10 t)) (f12 : Bf F c (st0_11 t)) :=
  runFirst (F := F) c (grid0.coords t) (st0_0 t) (hstage0_0 ((cfg0.slots t 0).cast nbuf0_0))
      (st0_1 t) (hstage0_1 ((cfg0.slots t 1).cast nbuf0_1))
      (st0_2 t) (hstage0_2 ((cfg0.slots t 2).cast nbuf0_2))
      (st0_3 t) (hstage0_3 ((cfg0.slots t 3).cast nbuf0_3))
      (st0_4 t) (hstage0_4 ((cfg0.slots t 4).cast nbuf0_4))
      (st0_5 t) (hstage0_5 ((cfg0.slots t 5).cast nbuf0_5))
      (st0_6 t) (hstage0_6 ((cfg0.slots t 6).cast nbuf0_6))
      (st0_7 t) (hstage0_7 ((cfg0.slots t 7).cast nbuf0_7))
      (st0_8 t) (hstage0_8 ((cfg0.slots t 8).cast nbuf0_8))
      (st0_9 t) (hstage0_9 ((cfg0.slots t 9).cast nbuf0_9))
      (st0_10 t) (hstage0_10 ((cfg0.slots t 10).cast nbuf0_10))
      (st0_11 t) (hstage0_11 ((cfg0.slots t 11).cast nbuf0_11))
      (st0_12 t) (hstage0_12 ((cfg0.slots t 12).cast nbuf0_12))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc1 hc2 hc3 f1 f2 f3 f4 f5 f6 f7 f8 f9 f10 f11 f12

/-- The run of a middle point. -/
abbrev leafAt (c : Dev nD) (t : Fin cfg0.N) (hc1 : ¬ AtFirst (grid0.coords t)) (hc2 : k0_cond2 (grid0.coords t) = 1#1) (hc3 : ¬ k0_cond3 (grid0.coords t) = 1#1)
    (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) (H : Held F c) :=
  runLeaf (F := F) c (grid0.coords t) (st0_0 t) (hstage0_0 ((cfg0.slots t 0).cast nbuf0_0))
      (st0_1 t) (hstage0_1 ((cfg0.slots t 1).cast nbuf0_1))
      (st0_2 t) (hstage0_2 ((cfg0.slots t 2).cast nbuf0_2))
      (st0_3 t) (hstage0_3 ((cfg0.slots t 3).cast nbuf0_3))
      (st0_4 t) (hstage0_4 ((cfg0.slots t 4).cast nbuf0_4))
      (st0_5 t) (hstage0_5 ((cfg0.slots t 5).cast nbuf0_5))
      (st0_6 t) (hstage0_6 ((cfg0.slots t 6).cast nbuf0_6))
      (st0_7 t) (hstage0_7 ((cfg0.slots t 7).cast nbuf0_7))
      (st0_8 t) (hstage0_8 ((cfg0.slots t 8).cast nbuf0_8))
      (st0_9 t) (hstage0_9 ((cfg0.slots t 9).cast nbuf0_9))
      (st0_10 t) (hstage0_10 ((cfg0.slots t 10).cast nbuf0_10))
      (st0_11 t) (hstage0_11 ((cfg0.slots t 11).cast nbuf0_11))
      (st0_12 t) (hstage0_12 ((cfg0.slots t 12).cast nbuf0_12))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc1 hc2 hc3 f1 f2 f3 f4 f5 f6 f7 f8 H.wu H.bu

/-- The run of the last point. -/
abbrev treeAt (c : Dev nD) (t : Fin cfg0.N) (hc1 : ¬ AtFirst (grid0.coords t)) (hc2 : ¬ k0_cond2 (grid0.coords t) = 1#1) (hc3 : k0_cond3 (grid0.coords t) = 1#1)
    (H : Held F c) :=
  runTree (F := F) c (grid0.coords t) (st0_0 t) (hstage0_0 ((cfg0.slots t 0).cast nbuf0_0))
      (st0_1 t) (hstage0_1 ((cfg0.slots t 1).cast nbuf0_1))
      (st0_2 t) (hstage0_2 ((cfg0.slots t 2).cast nbuf0_2))
      (st0_3 t) (hstage0_3 ((cfg0.slots t 3).cast nbuf0_3))
      (st0_4 t) (hstage0_4 ((cfg0.slots t 4).cast nbuf0_4))
      (st0_5 t) (hstage0_5 ((cfg0.slots t 5).cast nbuf0_5))
      (st0_6 t) (hstage0_6 ((cfg0.slots t 6).cast nbuf0_6))
      (st0_7 t) (hstage0_7 ((cfg0.slots t 7).cast nbuf0_7))
      (st0_8 t) (hstage0_8 ((cfg0.slots t 8).cast nbuf0_8))
      (st0_9 t) (hstage0_9 ((cfg0.slots t 9).cast nbuf0_9))
      (st0_10 t) (hstage0_10 ((cfg0.slots t 10).cast nbuf0_10))
      (st0_11 t) (hstage0_11 ((cfg0.slots t 11).cast nbuf0_11))
      (st0_12 t) (hstage0_12 ((cfg0.slots t 12).cast nbuf0_12))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) hc1 hc2 hc3 H.u4 H.lo H.hi H.wc H.bh

/-- What the first point leaves in the scratch buffers. -/
abbrev Held.afterFirst {c : Dev nD} {t : Fin cfg0.N} (H : Held F c) (hc1 : AtFirst (grid0.coords t)) (hc2 : k0_cond2 (grid0.coords t) = 1#1) (hc3 : ¬ k0_cond3 (grid0.coords t) = 1#1)
    (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) (f9 : Bf F c (st0_8 t)) (f10 : Bf F c (st0_9 t)) (f11 : Bf F c (st0_10 t)) (f12 : Bf F c (st0_11 t)) : Held F c :=
  { H with u4 := (Memref.whole cc0_scratch0).view.writes (Elt F) H.u4 (firstAt c t hc1 hc2 hc3 f1 f2 f3 f4 f5 f6 f7 f8 f9 f10 f11 f12).val.1, wu := (Memref.whole cc0_scratch3).view.writes (Elt F) H.wu (firstAt c t hc1 hc2 hc3 f1 f2 f3 f4 f5 f6 f7 f8 f9 f10 f11 f12).val.2.1, lo := (Memref.whole cc0_scratch4).view.writes (Elt F) H.lo (firstAt c t hc1 hc2 hc3 f1 f2 f3 f4 f5 f6 f7 f8 f9 f10 f11 f12).val.2.2.1, hi := (Memref.whole cc0_scratch5).view.writes (Elt F) H.hi (firstAt c t hc1 hc2 hc3 f1 f2 f3 f4 f5 f6 f7 f8 f9 f10 f11 f12).val.2.2.2.1, wc := (Memref.whole cc0_scratch6).view.writes (Elt F) H.wc (firstAt c t hc1 hc2 hc3 f1 f2 f3 f4 f5 f6 f7 f8 f9 f10 f11 f12).val.2.2.2.2.1, bu := (Memref.whole cc0_scratch7).view.writes (Elt F) H.bu (firstAt c t hc1 hc2 hc3 f1 f2 f3 f4 f5 f6 f7 f8 f9 f10 f11 f12).val.2.2.2.2.2.1, bh := (Memref.whole cc0_scratch8).view.writes (Elt F) H.bh (firstAt c t hc1 hc2 hc3 f1 f2 f3 f4 f5 f6 f7 f8 f9 f10 f11 f12).val.2.2.2.2.2.2 }

/-- What a middle point leaves in the scratch buffers. -/
abbrev Held.afterLeaf {c : Dev nD} {t : Fin cfg0.N} (H : Held F c) (hc1 : ¬ AtFirst (grid0.coords t)) (hc2 : k0_cond2 (grid0.coords t) = 1#1) (hc3 : ¬ k0_cond3 (grid0.coords t) = 1#1)
    (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) : Held F c :=
  { H with u4 := (Memref.whole cc0_scratch0).view.writes (Elt F) H.u4 (leafAt c t hc1 hc2 hc3 f1 f2 f3 f4 f5 f6 f7 f8 H).val }

/-- What the last point leaves in the scratch buffers. -/
abbrev Held.afterTree {c : Dev nD} {t : Fin cfg0.N} (H : Held F c) (hc1 : ¬ AtFirst (grid0.coords t)) (hc2 : ¬ k0_cond2 (grid0.coords t) = 1#1) (hc3 : k0_cond3 (grid0.coords t) = 1#1) : Held F c :=
  { H with qa := (Memref.whole cc0_scratch1).view.writes (Elt F) H.qa (treeAt c t hc1 hc2 hc3 H).val.2.1, qb := (Memref.whole cc0_scratch2).view.writes (Elt F) H.qb (treeAt c t hc1 hc2 hc3 H).val.2.2 }

/-- The first point: whatever relation `R` holds of what its run leaves, it leaves contents that `R` relates. -/
theorem triple_first (c : Dev nD) (t : Fin cfg0.N) (hc1 : AtFirst (grid0.coords t)) (hc2 : k0_cond2 (grid0.coords t) = 1#1) (hc3 : ¬ k0_cond3 (grid0.coords t) = 1#1)
    (X1 : Vec F S2048x64 .f32) (X2 : Vec F S2048x64 .f32) (X3 : Vec F S2048x64 .f32) (X4 : Vec F S2048x64 .f32) (X5 : Vec F S2048x64 .f32) (X6 : Vec F S2048x64 .f32) (X7 : Vec F S2048x64 .f32) (X8 : Vec F S2048x64 .f32) (X9 : Vec F S32x64 .f32) (X10 : Vec F S1x32 .f32) (X11 : Vec F S32x96 .f32) (X12 : Vec F S1x32 .f32)
    (H : Held F c) (X : Vec F S16x32 .f32) (R : Held F c → Vec F S16x32 .f32 → Prop)
    (hR : ∀ (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) (f9 : Bf F c (st0_8 t)) (f10 : Bf F c (st0_9 t)) (f11 : Bf F c (st0_10 t)) (f12 : Bf F c (st0_11 t)), (st0_0 t).view.read (Elt F) f1 = X1 → (st0_1 t).view.read (Elt F) f2 = X2 → (st0_2 t).view.read (Elt F) f3 = X3 → (st0_3 t).view.read (Elt F) f4 = X4 → (st0_4 t).view.read (Elt F) f5 = X5 → (st0_5 t).view.read (Elt F) f6 = X6 → (st0_6 t).view.read (Elt F) f7 = X7 → (st0_7 t).view.read (Elt F) f8 = X8 → (st0_8 t).view.read (Elt F) f9 = X9 → (st0_9 t).view.read (Elt F) f10 = X10 → (st0_10 t).view.read (Elt F) f11 = X11 → (st0_11 t).view.read (Elt F) f12 = X12 → R (H.afterFirst hc1 hc2 hc3 f1 f2 f3 f4 f5 f6 f7 f8 f9 f10 f11 f12) X) (Q : PUnit → sProp 𝕄) :
    iprop(inputs c t X1 X2 X3 X4 X5 X6 X7 X8 X9 X10 X11 X12 ∗ held c H ∗ owns c (st0_12 t) fullShare X ∗ (iprop(inputs c t X1 X2 X3 X4 X5 X6 X7 X8 X9 X10 X11 X12 ∗ (∃ (H' : Held F c) (X' : Vec F S16x32 .f32), ⌜R H' X'⌝ ∗ held c H' ∗ owns c (st0_12 t) fullShare X')) -∗ Q ⟨⟩))
      ⊢ wp frame (wpE (defs₀ (F := F)) Variants.none c none) Set.univ (bodyAt0 (F := F) t) Q := by
  unfold inputs held owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩, ⟨H14, H15, H16, H17, H18, H19, H20, H21, H22⟩, ⟨%f13, %h13, H13⟩, Hrest⟩
  iapply ((firstAt c t hc1 hc2 hc3 f1 f2 f3 f4 f5 f6 f7 f8 f9 f10 f11 f12).property H.u4 H.wu H.lo H.hi H.wc H.bu H.bh _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [H17]; · iexact H17
  isplitl [H18]; · iexact H18
  isplitl [H19]; · iexact H19
  isplitl [H20]; · iexact H20
  isplitl [H21]; · iexact H21
  isplitl [H22]; · iexact H22
  iintro ⟨H1, H2, H3, H4, H5, H6, H7, H8, H9, H10, H11, H12, H14, H17, H18, H19, H20, H21, H22⟩
  iapply Hrest
  isplitl [H1 H2 H3 H4 H5 H6 H7 H8 H9 H10 H11 H12]
  · isplitl [H1]; · iexists f1; isplitr; (· ipureintro; exact h1); iexact H1
    isplitl [H2]; · iexists f2; isplitr; (· ipureintro; exact h2); iexact H2
    isplitl [H3]; · iexists f3; isplitr; (· ipureintro; exact h3); iexact H3
    isplitl [H4]; · iexists f4; isplitr; (· ipureintro; exact h4); iexact H4
    isplitl [H5]; · iexists f5; isplitr; (· ipureintro; exact h5); iexact H5
    isplitl [H6]; · iexists f6; isplitr; (· ipureintro; exact h6); iexact H6
    isplitl [H7]; · iexists f7; isplitr; (· ipureintro; exact h7); iexact H7
    isplitl [H8]; · iexists f8; isplitr; (· ipureintro; exact h8); iexact H8
    isplitl [H9]; · iexists f9; isplitr; (· ipureintro; exact h9); iexact H9
    isplitl [H10]; · iexists f10; isplitr; (· ipureintro; exact h10); iexact H10
    isplitl [H11]; · iexists f11; isplitr; (· ipureintro; exact h11); iexact H11
    iexists f12; isplitr; (· ipureintro; exact h12); iexact H12
  iexists (H.afterFirst hc1 hc2 hc3 f1 f2 f3 f4 f5 f6 f7 f8 f9 f10 f11 f12)
  iexists X
  isplitr; (· ipureintro; exact hR f1 f2 f3 f4 f5 f6 f7 f8 f9 f10 f11 f12 h1 h2 h3 h4 h5 h6 h7 h8 h9 h10 h11 h12)
  isplitl [H14 H15 H16 H17 H18 H19 H20 H21 H22]
  · isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iexists f13; isplitr; (· ipureintro; exact h13); iexact H13

/-- A middle point, likewise. -/
theorem triple_leaf (c : Dev nD) (t : Fin cfg0.N) (hc1 : ¬ AtFirst (grid0.coords t)) (hc2 : k0_cond2 (grid0.coords t) = 1#1) (hc3 : ¬ k0_cond3 (grid0.coords t) = 1#1)
    (X1 : Vec F S2048x64 .f32) (X2 : Vec F S2048x64 .f32) (X3 : Vec F S2048x64 .f32) (X4 : Vec F S2048x64 .f32) (X5 : Vec F S2048x64 .f32) (X6 : Vec F S2048x64 .f32) (X7 : Vec F S2048x64 .f32) (X8 : Vec F S2048x64 .f32) (X9 : Vec F S32x64 .f32) (X10 : Vec F S1x32 .f32) (X11 : Vec F S32x96 .f32) (X12 : Vec F S1x32 .f32)
    (H : Held F c) (X : Vec F S16x32 .f32) (R : Held F c → Vec F S16x32 .f32 → Prop)
    (hR : ∀ (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)), (st0_0 t).view.read (Elt F) f1 = X1 → (st0_1 t).view.read (Elt F) f2 = X2 → (st0_2 t).view.read (Elt F) f3 = X3 → (st0_3 t).view.read (Elt F) f4 = X4 → (st0_4 t).view.read (Elt F) f5 = X5 → (st0_5 t).view.read (Elt F) f6 = X6 → (st0_6 t).view.read (Elt F) f7 = X7 → (st0_7 t).view.read (Elt F) f8 = X8 → R (H.afterLeaf hc1 hc2 hc3 f1 f2 f3 f4 f5 f6 f7 f8) X) (Q : PUnit → sProp 𝕄) :
    iprop(inputs c t X1 X2 X3 X4 X5 X6 X7 X8 X9 X10 X11 X12 ∗ held c H ∗ owns c (st0_12 t) fullShare X ∗ (iprop(inputs c t X1 X2 X3 X4 X5 X6 X7 X8 X9 X10 X11 X12 ∗ (∃ (H' : Held F c) (X' : Vec F S16x32 .f32), ⌜R H' X'⌝ ∗ held c H' ∗ owns c (st0_12 t) fullShare X')) -∗ Q ⟨⟩))
      ⊢ wp frame (wpE (defs₀ (F := F)) Variants.none c none) Set.univ (bodyAt0 (F := F) t) Q := by
  unfold inputs held owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩, ⟨H14, H15, H16, H17, H18, H19, H20, H21, H22⟩, ⟨%f13, %h13, H13⟩, Hrest⟩
  iapply ((leafAt c t hc1 hc2 hc3 f1 f2 f3 f4 f5 f6 f7 f8 H).property H.u4 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H14]; · iexact H14
  isplitl [H17]; · iexact H17
  isplitl [H21]; · iexact H21
  iintro ⟨H1, H2, H3, H4, H5, H6, H7, H8, H14, H17, H21⟩
  iapply Hrest
  isplitl [H1 H2 H3 H4 H5 H6 H7 H8 H9 H10 H11 H12]
  · isplitl [H1]; · iexists f1; isplitr; (· ipureintro; exact h1); iexact H1
    isplitl [H2]; · iexists f2; isplitr; (· ipureintro; exact h2); iexact H2
    isplitl [H3]; · iexists f3; isplitr; (· ipureintro; exact h3); iexact H3
    isplitl [H4]; · iexists f4; isplitr; (· ipureintro; exact h4); iexact H4
    isplitl [H5]; · iexists f5; isplitr; (· ipureintro; exact h5); iexact H5
    isplitl [H6]; · iexists f6; isplitr; (· ipureintro; exact h6); iexact H6
    isplitl [H7]; · iexists f7; isplitr; (· ipureintro; exact h7); iexact H7
    isplitl [H8]; · iexists f8; isplitr; (· ipureintro; exact h8); iexact H8
    isplitl [H9]; · iexists f9; isplitr; (· ipureintro; exact h9); iexact H9
    isplitl [H10]; · iexists f10; isplitr; (· ipureintro; exact h10); iexact H10
    isplitl [H11]; · iexists f11; isplitr; (· ipureintro; exact h11); iexact H11
    iexists f12; isplitr; (· ipureintro; exact h12); iexact H12
  iexists (H.afterLeaf hc1 hc2 hc3 f1 f2 f3 f4 f5 f6 f7 f8)
  iexists X
  isplitr; (· ipureintro; exact hR f1 f2 f3 f4 f5 f6 f7 f8 h1 h2 h3 h4 h5 h6 h7 h8)
  isplitl [H14 H15 H16 H17 H18 H19 H20 H21 H22]
  · isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iexists f13; isplitr; (· ipureintro; exact h13); iexact H13

/-- The last point, likewise; it also writes the result. -/
theorem triple_tree (c : Dev nD) (t : Fin cfg0.N) (hc1 : ¬ AtFirst (grid0.coords t)) (hc2 : ¬ k0_cond2 (grid0.coords t) = 1#1) (hc3 : k0_cond3 (grid0.coords t) = 1#1)
    (X1 : Vec F S2048x64 .f32) (X2 : Vec F S2048x64 .f32) (X3 : Vec F S2048x64 .f32) (X4 : Vec F S2048x64 .f32) (X5 : Vec F S2048x64 .f32) (X6 : Vec F S2048x64 .f32) (X7 : Vec F S2048x64 .f32) (X8 : Vec F S2048x64 .f32) (X9 : Vec F S32x64 .f32) (X10 : Vec F S1x32 .f32) (X11 : Vec F S32x96 .f32) (X12 : Vec F S1x32 .f32)
    (H : Held F c) (X : Vec F S16x32 .f32) (R : Held F c → Vec F S16x32 .f32 → Prop)
    (hR : ∀ f13 : Bf F c (st0_12 t), (st0_12 t).view.read (Elt F) f13 = X → R (H.afterTree hc1 hc2 hc3) ((st0_12 t).view.read (Elt F) ((st0_12 t).view.writes (Elt F) f13 (treeAt c t hc1 hc2 hc3 H).val.1))) (Q : PUnit → sProp 𝕄) :
    iprop(inputs c t X1 X2 X3 X4 X5 X6 X7 X8 X9 X10 X11 X12 ∗ held c H ∗ owns c (st0_12 t) fullShare X ∗ (iprop(inputs c t X1 X2 X3 X4 X5 X6 X7 X8 X9 X10 X11 X12 ∗ (∃ (H' : Held F c) (X' : Vec F S16x32 .f32), ⌜R H' X'⌝ ∗ held c H' ∗ owns c (st0_12 t) fullShare X')) -∗ Q ⟨⟩))
      ⊢ wp frame (wpE (defs₀ (F := F)) Variants.none c none) Set.univ (bodyAt0 (F := F) t) Q := by
  unfold inputs held owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩⟩, ⟨H14, H15, H16, H17, H18, H19, H20, H21, H22⟩, ⟨%f13, %h13, H13⟩, Hrest⟩
  iapply ((treeAt c t hc1 hc2 hc3 H).property f13 H.qa H.qb _)
  isplitl [H13]; · iexact H13
  isplitl [H14]; · iexact H14
  isplitl [H15]; · iexact H15
  isplitl [H16]; · iexact H16
  isplitl [H18]; · iexact H18
  isplitl [H19]; · iexact H19
  isplitl [H20]; · iexact H20
  isplitl [H22]; · iexact H22
  iintro ⟨H13, H14, H15, H16, H18, H19, H20, H22⟩
  iapply Hrest
  isplitl [H1 H2 H3 H4 H5 H6 H7 H8 H9 H10 H11 H12]
  · isplitl [H1]; · iexists f1; isplitr; (· ipureintro; exact h1); iexact H1
    isplitl [H2]; · iexists f2; isplitr; (· ipureintro; exact h2); iexact H2
    isplitl [H3]; · iexists f3; isplitr; (· ipureintro; exact h3); iexact H3
    isplitl [H4]; · iexists f4; isplitr; (· ipureintro; exact h4); iexact H4
    isplitl [H5]; · iexists f5; isplitr; (· ipureintro; exact h5); iexact H5
    isplitl [H6]; · iexists f6; isplitr; (· ipureintro; exact h6); iexact H6
    isplitl [H7]; · iexists f7; isplitr; (· ipureintro; exact h7); iexact H7
    isplitl [H8]; · iexists f8; isplitr; (· ipureintro; exact h8); iexact H8
    isplitl [H9]; · iexists f9; isplitr; (· ipureintro; exact h9); iexact H9
    isplitl [H10]; · iexists f10; isplitr; (· ipureintro; exact h10); iexact H10
    isplitl [H11]; · iexists f11; isplitr; (· ipureintro; exact h11); iexact H11
    iexists f12; isplitr; (· ipureintro; exact h12); iexact H12
  iexists (H.afterTree hc1 hc2 hc3)
  iexists ((st0_12 t).view.read (Elt F) ((st0_12 t).view.writes (Elt F) f13 (treeAt c t hc1 hc2 hc3 H).val.1))
  isplitr; (· ipureintro; exact hR f13 h13)
  isplitl [H14 H15 H16 H17 H18 H19 H20 H21 H22]
  · isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iexists ((st0_12 t).view.writes (Elt F) f13 (treeAt c t hc1 hc2 hc3 H).val.1); isplitr; (· ipureintro; rfl); iexact H13

end Cert.KernelIdeal.Body

end
-- ==== Proof.Launch.lean ====
/-
  The launch: proof data saying what every window's buffer holds at each grid point, the body's obligation there from a step
  relation on the scratch buffers, and the run of the whole kernel.
-/
module

public import proofs.«01_k».proof.Proof.Body
public import proofs.«01_k».proof.Proof.Gen.KernelIdeal.Launch
public import proofs.«01_k».proof.Proof.Gen.KernelIdeal.Points

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- Contents of the eighth window's block where nothing reads them. -/
def dflt7 : (cfg0.win 7).block.Idx → Elt F (cfg0.win 7).elt := fun _ => Classical.choice inferInstance

/-- What the eighth window's buffer holds at point `t`: its block of the contents, over whatever the rest `d` held. -/
abbrev win7At (c : Dev nD) (t : Fin cfg0.N) (d : (cfg0.win 7).block.Idx → Elt F (cfg0.win 7).elt) :
    (cfg0.win 7).block.Idx → Elt F (cfg0.win 7).elt :=
  (cfg0.win 7).fill (cfg0.grid.coords t) d (iblk m c 7 t)

/-- What one grid point must do to keep `Inv`: from the blocks of the arguments and scratch contents satisfying `Inv` at `t`, the
    body leaves contents satisfying it at `t + 1`, and the result's buffer related by `Out` to what it was. -/
def Step (Inv : (c : Dev nD) → ℕ → Held F c → Prop) (Out : (c : Dev nD) → ℕ → Vec F S16x32 .f32 → Vec F S16x32 .f32 → Prop)
    (c : Dev nD) (t : Fin cfg0.N) : Prop :=
  ∀ (d : (cfg0.win 7).block.Idx → Elt F (cfg0.win 7).elt) (H : Held F c) (X : Vec F S16x32 .f32) (Q : PUnit → sProp 𝕄), Inv c t.val H →
    iprop(inputs c t (X0_0 m c t) (X0_1 m c t) (X0_2 m c t) (X0_3 m c t) (X0_4 m c t) (X0_5 m c t) (X0_6 m c t) (win7At m c t d) (iblk m c 8 t) (iblk m c 9 t) (iblk m c 10 t) (iblk m c 11 t) ∗ held c H ∗ owns c (st0_12 t) fullShare X
        ∗ (iprop(inputs c t (X0_0 m c t) (X0_1 m c t) (X0_2 m c t) (X0_3 m c t) (X0_4 m c t) (X0_5 m c t) (X0_6 m c t) (win7At m c t d) (iblk m c 8 t) (iblk m c 9 t) (iblk m c 10 t) (iblk m c 11 t) ∗ (∃ (H' : Held F c) (X' : Vec F S16x32 .f32), ⌜Inv c (t.val + 1) H' ∧ Out c t.val X X'⌝ ∗ held c H' ∗ owns c (st0_12 t) fullShare X')) -∗ Q ⟨⟩))
      ⊢ wp frame (wpE (defs₀ (F := F)) Variants.none c none) Set.univ (bodyAt0 (F := F) t) Q

variable (Inv : (c : Dev nD) → ℕ → Held F c → Prop) (out : (c : Dev nD) → Vec F S16x32 .f32)

/-- The invariant before point `n`: the scratch buffers at contents satisfying `Inv`, the random generator at some state. -/
def PhiAt (c : Dev nD) (n : ℕ) : sProp 𝕄 :=
  iprop((∃ H : Held F c, ⌜Inv c n H⌝ ∗ held c H) ∗ ∃ r, prngReg c r)

/-- The proof data: every input window keeps its block, the result's window ends at `out`. -/
def dats (p : Fin 1) (c : Dev nD) : Dat τ (Elt F) Unit ℕ (UR sig nD τ) ℕ (cfgs p) c :=
  match p with
  | 0 =>
  { A := fun w => V m c (Pipeline.arrRef spec0 w)
    after := fun
      | 0 => fun t => X0_0 m c t
      | 1 => fun t => X0_1 m c t
      | 2 => fun t => X0_2 m c t
      | 3 => fun t => X0_3 m c t
      | 4 => fun t => X0_4 m c t
      | 5 => fun t => X0_5 m c t
      | 6 => fun t => X0_6 m c t
      | 7 => fun t => win7At m c t dflt7
      | 8 => fun t => iblk m c 8 t
      | 9 => fun t => iblk m c 9 t
      | 10 => fun t => iblk m c 10 t
      | 11 => fun t => iblk m c 11 t
      | 12 => fun _ => out c
      | ⟨_ + 13, h⟩ => absurd h (Nat.not_lt.2 (Nat.le_add_left _ _))
    Φ := fun t => PhiAt Inv c t.val
    q := fun w => Pipeline.shareOf spec0 w
    owed := fun _ => 0 }
  | ⟨_ + 1, h⟩ => absurd h (Nat.not_lt.2 (Nat.le_add_left _ _))

/-- The windows handed to the body at point `t`, the result's as `W12` says. -/
def pre (c : Dev nD) (t : Fin cfg0.N) (W12 : sProp 𝕄) : sProp 𝕄 :=
  iprop(PhiAt Inv c t.val ∗ (dats m Inv out 0 c).owesAt () t.castSucc
    ∗ (∃ d, owns c (st0_0 t) fullShare ((dats m Inv out 0 c).before 0 t d))
    ∗ (∃ d, owns c (st0_1 t) fullShare ((dats m Inv out 0 c).before 1 t d))
    ∗ (∃ d, owns c (st0_2 t) fullShare ((dats m Inv out 0 c).before 2 t d))
    ∗ (∃ d, owns c (st0_3 t) fullShare ((dats m Inv out 0 c).before 3 t d))
    ∗ (∃ d, owns c (st0_4 t) fullShare ((dats m Inv out 0 c).before 4 t d))
    ∗ (∃ d, owns c (st0_5 t) fullShare ((dats m Inv out 0 c).before 5 t d))
    ∗ (∃ d, owns c (st0_6 t) fullShare ((dats m Inv out 0 c).before 6 t d))
    ∗ (∃ d, owns c (st0_7 t) fullShare ((dats m Inv out 0 c).before 7 t d))
    ∗ (∃ d, owns c (st0_8 t) fullShare ((dats m Inv out 0 c).before 8 t d))
    ∗ (∃ d, owns c (st0_9 t) fullShare ((dats m Inv out 0 c).before 9 t d))
    ∗ (∃ d, owns c (st0_10 t) fullShare ((dats m Inv out 0 c).before 10 t d))
    ∗ (∃ d, owns c (st0_11 t) fullShare ((dats m Inv out 0 c).before 11 t d))
    ∗ W12)

/-- The windows handed back, the result's as `W12` says: the first eight on the part their transfers move. -/
def post (c : Dev nD) (t : Fin cfg0.N) (W12 : sProp 𝕄) : sProp 𝕄 :=
  iprop(PhiAt Inv c (t.val + 1) ∗ (dats m Inv out 0 c).owesAt () t.succ
    ∗ (∃ d, owns c (st0_0 t) fullShare ((cfg0.win 0).fill (cfg0.grid.coords t) d ((cfg0.win 0).cut (cfg0.grid.coords t) ((dats m Inv out 0 c).after 0 t))))
    ∗ (∃ d, owns c (st0_1 t) fullShare ((cfg0.win 1).fill (cfg0.grid.coords t) d ((cfg0.win 1).cut (cfg0.grid.coords t) ((dats m Inv out 0 c).after 1 t))))
    ∗ (∃ d, owns c (st0_2 t) fullShare ((cfg0.win 2).fill (cfg0.grid.coords t) d ((cfg0.win 2).cut (cfg0.grid.coords t) ((dats m Inv out 0 c).after 2 t))))
    ∗ (∃ d, owns c (st0_3 t) fullShare ((cfg0.win 3).fill (cfg0.grid.coords t) d ((cfg0.win 3).cut (cfg0.grid.coords t) ((dats m Inv out 0 c).after 3 t))))
    ∗ (∃ d, owns c (st0_4 t) fullShare ((cfg0.win 4).fill (cfg0.grid.coords t) d ((cfg0.win 4).cut (cfg0.grid.coords t) ((dats m Inv out 0 c).after 4 t))))
    ∗ (∃ d, owns c (st0_5 t) fullShare ((cfg0.win 5).fill (cfg0.grid.coords t) d ((cfg0.win 5).cut (cfg0.grid.coords t) ((dats m Inv out 0 c).after 5 t))))
    ∗ (∃ d, owns c (st0_6 t) fullShare ((cfg0.win 6).fill (cfg0.grid.coords t) d ((cfg0.win 6).cut (cfg0.grid.coords t) ((dats m Inv out 0 c).after 6 t))))
    ∗ (∃ d, owns c (st0_7 t) fullShare ((cfg0.win 7).fill (cfg0.grid.coords t) d ((cfg0.win 7).cut (cfg0.grid.coords t) ((dats m Inv out 0 c).after 7 t))))
    ∗ owns c (st0_8 t) fullShare ((dats m Inv out 0 c).after 8 t)
    ∗ owns c (st0_9 t) fullShare ((dats m Inv out 0 c).after 9 t)
    ∗ owns c (st0_10 t) fullShare ((dats m Inv out 0 c).after 10 t)
    ∗ owns c (st0_11 t) fullShare ((dats m Inv out 0 c).after 11 t)
    ∗ W12)

theorem before_0 (c : Dev nD) (t : Fin cfg0.N) (d) : (dats m Inv out 0 c).before 0 t d = X0_0 m c t :=
  before0_0_of m (dats m Inv out 0 c) rfl (fun _ => rfl) t d

theorem before_1 (c : Dev nD) (t : Fin cfg0.N) (d) : (dats m Inv out 0 c).before 1 t d = X0_1 m c t :=
  before0_1_of m (dats m Inv out 0 c) rfl (fun _ => rfl) t d

theorem before_2 (c : Dev nD) (t : Fin cfg0.N) (d) : (dats m Inv out 0 c).before 2 t d = X0_2 m c t :=
  before0_2_of m (dats m Inv out 0 c) rfl (fun _ => rfl) t d

theorem before_3 (c : Dev nD) (t : Fin cfg0.N) (d) : (dats m Inv out 0 c).before 3 t d = X0_3 m c t :=
  before0_3_of m (dats m Inv out 0 c) rfl (fun _ => rfl) t d

theorem before_4 (c : Dev nD) (t : Fin cfg0.N) (d) : (dats m Inv out 0 c).before 4 t d = X0_4 m c t :=
  before0_4_of m (dats m Inv out 0 c) rfl (fun _ => rfl) t d

theorem before_5 (c : Dev nD) (t : Fin cfg0.N) (d) : (dats m Inv out 0 c).before 5 t d = X0_5 m c t :=
  before0_5_of m (dats m Inv out 0 c) rfl (fun _ => rfl) t d

theorem before_6 (c : Dev nD) (t : Fin cfg0.N) (d) : (dats m Inv out 0 c).before 6 t d = X0_6 m c t :=
  before0_6_of m (dats m Inv out 0 c) rfl (fun _ => rfl) t d

theorem before_7 (c : Dev nD) (t : Fin cfg0.N) (d) : (dats m Inv out 0 c).before 7 t d = win7At m c t d :=
  (dats m Inv out 0 c).before_in_eq_fetched 7 rfl (fun _ => rfl)
      (fun t t' h => funext fun a => congrArg (fun n => Pipeline.Clip.of n ((cfg0.win 7).size a) (S131056x64.size a)) (congrFun h a))
      (fun t => (Pipeline.Window.cut_fill (cfg0.win 7) (cfg0.grid.coords t) dflt7 (iblk m c 7 t))) t d

theorem before_8 (c : Dev nD) (t : Fin cfg0.N) (d) : (dats m Inv out 0 c).before 8 t d = iblk m c 8 t :=
  before0_8_of m (dats m Inv out 0 c) rfl (fun _ => rfl) t d

theorem before_9 (c : Dev nD) (t : Fin cfg0.N) (d) : (dats m Inv out 0 c).before 9 t d = iblk m c 9 t :=
  before0_9_of m (dats m Inv out 0 c) rfl (fun _ => rfl) t d

theorem before_10 (c : Dev nD) (t : Fin cfg0.N) (d) : (dats m Inv out 0 c).before 10 t d = iblk m c 10 t :=
  before0_10_of m (dats m Inv out 0 c) rfl (fun _ => rfl) t d

theorem before_11 (c : Dev nD) (t : Fin cfg0.N) (d) : (dats m Inv out 0 c).before 11 t d = iblk m c 11 t :=
  before0_11_of m (dats m Inv out 0 c) rfl (fun _ => rfl) t d

/-- The body at point `t` between the two, from its step. -/
theorem body_at (Out : (c : Dev nD) → ℕ → Vec F S16x32 .f32 → Vec F S16x32 .f32 → Prop) (c : Dev nD) (t : Fin cfg0.N)
    (hstep : Step m Inv Out c t) (X : Vec F S16x32 .f32) :
    pre m Inv out c t (owns c (st0_12 t) fullShare X)
      ⊢ wp frame (wpE (defs₀ (F := F)) Variants.none c none) Set.univ (bodyAt0 (F := F) t) fun _ =>
        post m Inv out c t iprop(∃ X', ⌜Out c t.val X X'⌝ ∗ owns c (st0_12 t) fullShare X') := by
  unfold pre PhiAt
  simp only [before_0, before_1, before_2, before_3, before_4, before_5, before_6, before_7, before_8, before_9, before_10, before_11]
  iintro ⟨⟨⟨%H, %hH, HH⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  iapply (hstep d7 H X _ hH)
  unfold inputs post PhiAt
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HH]; · iexact HH
  isplitl [H12]; · iexact H12
  iintro ⟨⟨H0, H1, H2, H3, H4, H5, H6, H7, H8, H9, H10, H11⟩, ⟨%H', %X', %hR, HH, H12⟩⟩
  isplitl [HH Hr]
  · isplitl [HH]
    · iexists H'; isplitr; (· ipureintro; exact hR.1); iexact HH
    iexact Hr
  isplitl [Ho]; · iexact Ho
  isplitl [H0]; · iexists (X0_0 m c t); rw [show (cfg0.win 0).fill (cfg0.grid.coords t) (X0_0 m c t) ((cfg0.win 0).cut (cfg0.grid.coords t) ((dats m Inv out 0 c).after 0 t)) = X0_0 m c t from Pipeline.Window.fill_cut (cfg0.win 0) _ _]; iexact H0
  isplitl [H1]; · iexists (X0_1 m c t); rw [show (cfg0.win 1).fill (cfg0.grid.coords t) (X0_1 m c t) ((cfg0.win 1).cut (cfg0.grid.coords t) ((dats m Inv out 0 c).after 1 t)) = X0_1 m c t from Pipeline.Window.fill_cut (cfg0.win 1) _ _]; iexact H1
  isplitl [H2]; · iexists (X0_2 m c t); rw [show (cfg0.win 2).fill (cfg0.grid.coords t) (X0_2 m c t) ((cfg0.win 2).cut (cfg0.grid.coords t) ((dats m Inv out 0 c).after 2 t)) = X0_2 m c t from Pipeline.Window.fill_cut (cfg0.win 2) _ _]; iexact H2
  isplitl [H3]; · iexists (X0_3 m c t); rw [show (cfg0.win 3).fill (cfg0.grid.coords t) (X0_3 m c t) ((cfg0.win 3).cut (cfg0.grid.coords t) ((dats m Inv out 0 c).after 3 t)) = X0_3 m c t from Pipeline.Window.fill_cut (cfg0.win 3) _ _]; iexact H3
  isplitl [H4]; · iexists (X0_4 m c t); rw [show (cfg0.win 4).fill (cfg0.grid.coords t) (X0_4 m c t) ((cfg0.win 4).cut (cfg0.grid.coords t) ((dats m Inv out 0 c).after 4 t)) = X0_4 m c t from Pipeline.Window.fill_cut (cfg0.win 4) _ _]; iexact H4
  isplitl [H5]; · iexists (X0_5 m c t); rw [show (cfg0.win 5).fill (cfg0.grid.coords t) (X0_5 m c t) ((cfg0.win 5).cut (cfg0.grid.coords t) ((dats m Inv out 0 c).after 5 t)) = X0_5 m c t from Pipeline.Window.fill_cut (cfg0.win 5) _ _]; iexact H5
  isplitl [H6]; · iexists (X0_6 m c t); rw [show (cfg0.win 6).fill (cfg0.grid.coords t) (X0_6 m c t) ((cfg0.win 6).cut (cfg0.grid.coords t) ((dats m Inv out 0 c).after 6 t)) = X0_6 m c t from Pipeline.Window.fill_cut (cfg0.win 6) _ _]; iexact H6
  isplitl [H7]
  · iexists d7
    rw [show (cfg0.win 7).cut (cfg0.grid.coords t) ((dats m Inv out 0 c).after 7 t) = iblk m c 7 t from
      Pipeline.Window.cut_fill (cfg0.win 7) (cfg0.grid.coords t) dflt7 (iblk m c 7 t)]
    iexact H7
  isplitl [H8]; · iexact H8
  isplitl [H9]; · iexact H9
  isplitl [H10]; · iexact H10
  isplitl [H11]; · iexact H11
  iexists X'; isplitr; (· ipureintro; exact hR.2); iexact H12

/-- The result's window alone forgotten. -/
def forget12 : Fin cfg0.W → Bool := fun w => decide (w = (12 : Fin 13))

/-- The obligation with the result's buffer forgotten. -/
theorem obligation_forget (Out : (c : Dev nD) → ℕ → Vec F S16x32 .f32 → Vec F S16x32 .f32 → Prop) (c : Dev nD)
    (hstep : ∀ t, Step m Inv Out c t) :
    BodyObligationLoose (dats m Inv out 0 c) (defs₀ (F := F)) Variants.none () Set.univ forget12 := fun t => by
  rw [bigSep_W0, bigSep_W0]
  show pre m Inv out c t iprop(∃ X, owns c (st0_12 t) fullShare X)
    ⊢ wp frame (wpE (defs₀ (F := F)) Variants.none c none) Set.univ (bodyAt0 (F := F) t) fun _ =>
      post m Inv out c t iprop(∃ X, owns c (st0_12 t) fullShare X)
  have h : pre m Inv out c t iprop(∃ X, owns c (st0_12 t) fullShare X)
      ⊢ iprop(∃ X, pre m Inv out c t (owns c (st0_12 t) fullShare X)) := by
    unfold pre
    iintro ⟨HP, Ho, H0, H1, H2, H3, H4, H5, H6, H7, H8, H9, H10, H11, ⟨%X, H12⟩⟩
    iexists X
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  refine h.trans (exists_elim fun X => (body_at m Inv out Out c t (hstep t) X).trans (wp_mono _ _ _ fun _ => ?_))
  unfold post
  iintro ⟨HP, Ho, H0, H1, H2, H3, H4, H5, H6, H7, H8, H9, H10, H11, ⟨%X', -, H12⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists X'; iexact H12

/-- Before the last point the body leaves the result's buffer alone, and the pipeline does not write it back. -/
theorem idle_12 (t : Fin cfg0.N) (ht : t.val < 8) : cfg0.idle 12 (cfg0.grid.coords t) = true := by
  rcases fin_N0 t with rfl | rfl | rfl | rfl | rfl | rfl | rfl | rfl | rfl <;> first | decide | exact absurd ht (by decide)

theorem live_12 (t : Fin cfg0.N) (ht : t.val = 8) : cfg0.idle 12 (cfg0.grid.coords t) = false := by
  obtain rfl : t = t0_8 := Fin.ext ht
  decide

theorem flush_12 (t : Fin cfg0.N) (ht : t.val < 8) : (cfg0.win 12).flush t = false := by
  rw [Bool.eq_false_iff]; intro h; have := (flush0_12 t).mp h; omega

/-- The obligation with the result named: untouched before the last point, `out` from it. -/
theorem obligation (c : Dev nD)
    (hstep : ∀ t, Step m Inv (fun c n X X' => (n < 8 → X' = X) ∧ (n = 8 → X' = out c)) c t) :
    BodyObligationLoose (dats m Inv out 0 c) (defs₀ (F := F)) Variants.none () Set.univ := fun t => by
  rw [bigSep_W0, bigSep_W0]
  have h : pre m Inv out c t iprop(∃ d, owns c (st0_12 t) fullShare ((dats m Inv out 0 c).before 12 t d))
      ⊢ iprop(∃ d, pre m Inv out c t (owns c (st0_12 t) fullShare ((dats m Inv out 0 c).before 12 t d))) := by
    unfold pre
    iintro ⟨HP, Ho, H0, H1, H2, H3, H4, H5, H6, H7, H8, H9, H10, H11, ⟨%X, H12⟩⟩
    iexists X
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  have hb := fun d => body_at m Inv out _ c t (hstep t) ((dats m Inv out 0 c).before 12 t d)
  refine (show pre m Inv out c t iprop(∃ d, owns c (st0_12 t) fullShare ((dats m Inv out 0 c).before 12 t d))
    ⊢ wp frame (wpE (defs₀ (F := F)) Variants.none c none) Set.univ (bodyAt0 (F := F) t) (fun _ =>
      post m Inv out c t ((dats m Inv out 0 c).leaves 12 t)) from ?_)
  refine h.trans (exists_elim fun d => (hb d).trans (wp_mono _ _ _ fun _ => ?_))
  unfold post
  iintro ⟨HP, Ho, H0, H1, H2, H3, H4, H5, H6, H7, H8, H9, H10, H11, ⟨%X', %hX, H12⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold Dat.leaves
  by_cases ht : t.val < 8
  · rw [idle_12 t ht, flush_12 t ht]
    iexists d; rw [← hX.1 ht]; iexact H12
  · have h8 : t.val = 8 := by have := Nat.lt_of_lt_of_eq t.isLt N_0; omega
    rw [live_12 t h8]
    obtain rfl : X' = out c := hX.2 h8
    iexact H12

end Cert.KernelIdeal.Body

end
-- ==== Proof.Frames.lean ====
/-
  Steps from the three runs, and the runs of the whole kernel they give: one that keeps the arguments and says nothing of the
  result, for any floats; one that names the result.
-/
module

public import proofs.«01_k».proof.Proof.Launch

@[expose] public section

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-- Which branch each grid point takes. -/
theorem cond_first (t : Fin cfg0.N) (ht : t.val = 0) :
    AtFirst (grid0.coords t) ∧ k0_cond2 (grid0.coords t) = 1#1 ∧ ¬ k0_cond3 (grid0.coords t) = 1#1 := by
  obtain rfl : t = t0_0 := Fin.ext ht
  decide

theorem cond_leaf (t : Fin cfg0.N) (h0 : t.val ≠ 0) (h8 : t.val < 8) :
    ¬ AtFirst (grid0.coords t) ∧ k0_cond2 (grid0.coords t) = 1#1 ∧ ¬ k0_cond3 (grid0.coords t) = 1#1 := by
  rcases fin_N0 t with rfl | rfl | rfl | rfl | rfl | rfl | rfl | rfl | rfl <;>
    first | decide | exact absurd h8 (by decide) | exact absurd rfl h0

theorem cond_tree (t : Fin cfg0.N) (ht : t.val = 8) :
    ¬ AtFirst (grid0.coords t) ∧ ¬ k0_cond2 (grid0.coords t) = 1#1 ∧ k0_cond3 (grid0.coords t) = 1#1 := by
  obtain rfl : t = t0_8 := Fin.ext ht
  decide

section Steps

variable {Inv : (c : Dev nD) → ℕ → Held F c → Prop} {Out : (c : Dev nD) → ℕ → Vec F S16x32 .f32 → Vec F S16x32 .f32 → Prop}

/-- The first point's step. -/
theorem step_first (c : Dev nD) (t : Fin cfg0.N) (ht : t.val = 0)
    (h : ∀ (d : (cfg0.win 7).block.Idx → Elt F (cfg0.win 7).elt) (H : Held F c) (X : Vec F S16x32 .f32) (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)) (f9 : Bf F c (st0_8 t)) (f10 : Bf F c (st0_9 t)) (f11 : Bf F c (st0_10 t)) (f12 : Bf F c (st0_11 t)), Inv c 0 H → (st0_0 t).view.read (Elt F) f1 = X0_0 m c t → (st0_1 t).view.read (Elt F) f2 = X0_1 m c t → (st0_2 t).view.read (Elt F) f3 = X0_2 m c t → (st0_3 t).view.read (Elt F) f4 = X0_3 m c t → (st0_4 t).view.read (Elt F) f5 = X0_4 m c t → (st0_5 t).view.read (Elt F) f6 = X0_5 m c t → (st0_6 t).view.read (Elt F) f7 = X0_6 m c t → (st0_7 t).view.read (Elt F) f8 = win7At m c t d → (st0_8 t).view.read (Elt F) f9 = iblk m c 8 t → (st0_9 t).view.read (Elt F) f10 = iblk m c 9 t → (st0_10 t).view.read (Elt F) f11 = iblk m c 10 t → (st0_11 t).view.read (Elt F) f12 = iblk m c 11 t →
      Inv c 1 (H.afterFirst (cond_first t ht).1 (cond_first t ht).2.1 (cond_first t ht).2.2 f1 f2 f3 f4 f5 f6 f7 f8 f9 f10 f11 f12) ∧ Out c 0 X X) :
    Step m Inv Out c t := fun d H X Q hH =>
  triple_first c t (cond_first t ht).1 (cond_first t ht).2.1 (cond_first t ht).2.2 _ _ _ _ _ _ _ _ _ _ _ _ H X
    (fun H' X' => Inv c (t.val + 1) H' ∧ Out c t.val X X')
    (by rw [ht] at hH ⊢; exact fun f1 f2 f3 f4 f5 f6 f7 f8 f9 f10 f11 f12 => h d H X f1 f2 f3 f4 f5 f6 f7 f8 f9 f10 f11 f12 hH) Q

/-- A middle point's step. -/
theorem step_leaf (c : Dev nD) (t : Fin cfg0.N) (h0 : t.val ≠ 0) (h8 : t.val < 8)
    (h : ∀ (d : (cfg0.win 7).block.Idx → Elt F (cfg0.win 7).elt) (H : Held F c) (X : Vec F S16x32 .f32) (f1 : Bf F c (st0_0 t)) (f2 : Bf F c (st0_1 t)) (f3 : Bf F c (st0_2 t)) (f4 : Bf F c (st0_3 t)) (f5 : Bf F c (st0_4 t)) (f6 : Bf F c (st0_5 t)) (f7 : Bf F c (st0_6 t)) (f8 : Bf F c (st0_7 t)), Inv c t.val H → (st0_0 t).view.read (Elt F) f1 = X0_0 m c t → (st0_1 t).view.read (Elt F) f2 = X0_1 m c t → (st0_2 t).view.read (Elt F) f3 = X0_2 m c t → (st0_3 t).view.read (Elt F) f4 = X0_3 m c t → (st0_4 t).view.read (Elt F) f5 = X0_4 m c t → (st0_5 t).view.read (Elt F) f6 = X0_5 m c t → (st0_6 t).view.read (Elt F) f7 = X0_6 m c t → (st0_7 t).view.read (Elt F) f8 = win7At m c t d →
      Inv c (t.val + 1) (H.afterLeaf (cond_leaf t h0 h8).1 (cond_leaf t h0 h8).2.1 (cond_leaf t h0 h8).2.2 f1 f2 f3 f4 f5 f6 f7 f8) ∧ Out c t.val X X) :
    Step m Inv Out c t := fun d H X Q hH =>
  triple_leaf c t (cond_leaf t h0 h8).1 (cond_leaf t h0 h8).2.1 (cond_leaf t h0 h8).2.2 _ _ _ _ _ _ _ _ _ _ _ _ H X
    (fun H' X' => Inv c (t.val + 1) H' ∧ Out c t.val X X')
    (fun f1 f2 f3 f4 f5 f6 f7 f8 => h d H X f1 f2 f3 f4 f5 f6 f7 f8 hH) Q

/-- The last point's step. -/
theorem step_tree (c : Dev nD) (t : Fin cfg0.N) (ht : t.val = 8)
    (h : ∀ (H : Held F c) (X : Vec F S16x32 .f32) (f13 : Bf F c (st0_12 t)), Inv c 8 H → (st0_12 t).view.read (Elt F) f13 = X →
      Inv c 9 (H.afterTree (cond_tree t ht).1 (cond_tree t ht).2.1 (cond_tree t ht).2.2)
        ∧ Out c 8 X ((st0_12 t).view.read (Elt F) ((st0_12 t).view.writes (Elt F) f13
            (treeAt c t (cond_tree t ht).1 (cond_tree t ht).2.1 (cond_tree t ht).2.2 H).val.1))) :
    Step m Inv Out c t := fun d H X Q hH =>
  triple_tree c t (cond_tree t ht).1 (cond_tree t ht).2.1 (cond_tree t ht).2.2 _ _ _ _ _ _ _ _ _ _ _ _ H X
    (fun H' X' => Inv c (t.val + 1) H' ∧ Out c t.val X X')
    (by rw [ht] at hH ⊢; exact fun f13 => h H X f13 hH) Q

end Steps

/-- The step that asks nothing. -/
theorem step_any (c : Dev nD) (t : Fin cfg0.N) : Step m (fun _ _ _ => True) (fun _ _ _ _ => True) c t := by
  by_cases h0 : t.val = 0
  · exact step_first m c t h0 (fun _ _ _ _ _ _ _ _ _ _ _ _ _ _ _ _ _ _ _ _ _ _ _ _ _ _ _ _ => ⟨trivial, trivial⟩)
  · by_cases h8 : t.val < 8
    · exact step_leaf m c t h0 h8 (fun _ _ _ _ _ _ _ _ _ _ _ _ _ _ _ _ _ _ _ _ => ⟨trivial, trivial⟩)
    · exact step_tree m c t (by have := Nat.lt_of_lt_of_eq t.isLt N_0; omega) (fun _ _ _ _ _ => ⟨trivial, trivial⟩)

/-- A whole buffer's own elements are all its elements. -/
theorem pt_whole (c : Dev nD) (b : Ref sig .tc) (f : Buf (Elt F) ((c : Thread nD τ).loc b)) :
    ((View.whole b : View sig .tc _ _ _).loc (c : Thread nD τ) ↦[(View.whole b : View sig .tc _ _ _).set]{fullShare} f : sProp 𝕄)
      = (((c : Thread nD τ).loc b) ↦{fullShare} f) := by
  rw [View.set_whole]

/-- The scratch buffers owned, each as the whole buffer it is. -/
theorem held_eq (c : Dev nD) (H : Held F c) : (held c H : sProp 𝕄) =
    iprop((((c : Thread nD τ).loc cc0_scratch0) ↦{fullShare} H.u4) ∗ (((c : Thread nD τ).loc cc0_scratch1) ↦{fullShare} H.qa) ∗ (((c : Thread nD τ).loc cc0_scratch2) ↦{fullShare} H.qb) ∗ (((c : Thread nD τ).loc cc0_scratch3) ↦{fullShare} H.wu) ∗ (((c : Thread nD τ).loc cc0_scratch4) ↦{fullShare} H.lo) ∗ (((c : Thread nD τ).loc cc0_scratch5) ↦{fullShare} H.hi) ∗ (((c : Thread nD τ).loc cc0_scratch6) ↦{fullShare} H.wc) ∗ (((c : Thread nD τ).loc cc0_scratch7) ↦{fullShare} H.bu) ∗ (((c : Thread nD τ).loc cc0_scratch8) ↦{fullShare} H.bh)) :=
  congrArg₂ (fun P Q : sProp 𝕄 => iprop(P ∗ Q)) (pt_whole c cc0_scratch0 H.u4) (
    congrArg₂ (fun P Q : sProp 𝕄 => iprop(P ∗ Q)) (pt_whole c cc0_scratch1 H.qa) (
    congrArg₂ (fun P Q : sProp 𝕄 => iprop(P ∗ Q)) (pt_whole c cc0_scratch2 H.qb) (
    congrArg₂ (fun P Q : sProp 𝕄 => iprop(P ∗ Q)) (pt_whole c cc0_scratch3 H.wu) (
    congrArg₂ (fun P Q : sProp 𝕄 => iprop(P ∗ Q)) (pt_whole c cc0_scratch4 H.lo) (
    congrArg₂ (fun P Q : sProp 𝕄 => iprop(P ∗ Q)) (pt_whole c cc0_scratch5 H.hi) (
    congrArg₂ (fun P Q : sProp 𝕄 => iprop(P ∗ Q)) (pt_whole c cc0_scratch6 H.wc) (
    congrArg₂ (fun P Q : sProp 𝕄 => iprop(P ∗ Q)) (pt_whole c cc0_scratch7 H.bu) (
    pt_whole c cc0_scratch8 H.bh))))))))

section Launch

variable (Inv : (c : Dev nD) → ℕ → Held F c → Prop) (out : (c : Dev nD) → Vec F S16x32 .f32)

theorem phi_in (hInv : ∀ c H, Inv c 0 H) (c : Dev nD) :
    Pipeline.ΦA spec0 c ⊢ (dats m Inv out 0 c).Φ 0 := by
  show _ ⊢ PhiAt Inv c 0
  unfold Pipeline.ΦA PhiAt
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hr⟩
  isplitr [Hr]
  · iexists (⟨f0, f1, f2, f3, f4, f5, f6, f7, f8⟩ : Held F c)
    isplitr; (· ipureintro; exact hInv c _)
    rw [held_eq]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hr

theorem phi_out (c : Dev nD) :
    (dats m Inv out 0 c).Φ (Fin.last cfg0.N) ⊢ Pipeline.ΦA spec0 c := by
  show PhiAt Inv c cfg0.N ⊢ _
  unfold Pipeline.ΦA PhiAt
  rw [scopedRest0_eq]
  simp only [held_eq]
  iintro ⟨⟨%H, -, H0, H1, H2, H3, H4, H5, H6, H7, H8⟩, Hr⟩
  isplitr [Hr]
  · isplitl [H0]; · iexists H.u4; iexact H0
    isplitl [H1]; · iexists H.qa; iexact H1
    isplitl [H2]; · iexists H.qb; iexact H2
    isplitl [H3]; · iexists H.wu; iexact H3
    isplitl [H4]; · iexists H.lo; iexact H4
    isplitl [H5]; · iexists H.hi; iexact H5
    isplitl [H6]; · iexists H.wc; iexact H6
    isplitl [H7]; · iexists H.bu; iexact H7
    iexists H.bh; iexact H8
  iexact Hr

include out in
/-- The kernel run with the result forgotten: it ends with the arguments as they were and every semaphore at zero. -/
theorem run_forget (hInv : ∀ c H, Inv c 0 H) (g : Dev nD → PrngReg)
    (Out : (c : Dev nD) → ℕ → Vec F S16x32 .f32 → Vec F S16x32 .f32 → Prop) (hstep : ∀ c t, Step m Inv Out c t) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_track_forget_shared cfgs (dats m Inv out) 0 launch₀0 defs₀ Variants.none forget12 m g main
    (fun c => obligation_forget m Inv out Out c (hstep c)) (fun _ _ _ => rfl) (fun _ _ => rfl) (V m) (hmain m Variants.none)
    (fun _ _ => rfl) (phi_in m Inv out hInv) (phi_out m Inv out) _
    (fun r h => ⟨fun c =>
      ⟨(h.1.arr_in c 7 rfl).trans (V_main_arg0 m c),
       ((h.1 c).2 main_arg1 (Pipeline.mem_restRefs_of main_arg1 (by decide) (by decide))).trans (V_main_arg1 m c),
       (h.1.arr_in c 8 rfl).trans (V_main_arg2 m c),
       ((h.1 c).2 main_arg3 (Pipeline.mem_restRefs_of main_arg3 (by decide) (by decide))).trans (V_main_arg3 m c),
       (h.1.arr_in c 10 rfl).trans (V_main_arg4 m c),
       ((h.1 c).2 main_arg5 (Pipeline.mem_restRefs_of main_arg5 (by decide) (by decide))).trans (V_main_arg5 m c)⟩, h.2⟩)

/-- The kernel run with the result named: it ends with the result's array at what the proof data says, the arguments as they
    were, every semaphore at zero. -/
theorem run_named (hInv : ∀ c H, Inv c 0 H) (g : Dev nD → PrngReg)
    (hstep : ∀ c t, Step m Inv (fun c n X X' => (n < 8 → X' = X) ∧ (n = 8 → X' = out c)) c t) :
    θ_run defs (onTc (τ := τ) (main (F := F))) ⟨m, fun _ => 0, g⟩ (fun r => ∀ c : Dev nD,
      r.2.mem ((c.tc : Thread nD τ).loc main_v2) = (dats m Inv out 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_frame_track_shared cfgs (dats m Inv out) 0 launch₀0 defs₀ Variants.none m g main
    (fun c => obligation m Inv out c (hstep c)) (fun _ _ _ => rfl) (fun _ _ => rfl) (V m) (hmain m Variants.none)
    (fun _ _ => rfl) (phi_in m Inv out hInv) (phi_out m Inv out) _
    (fun r h c =>
      ⟨(h.1 c).1 12,
       ((h.1 c).1 7).trans (((dats m Inv out 0 c).arrAt_in 7 rfl _).trans (V_main_arg0 m c)),
       ((h.1 c).2 main_arg1 (Pipeline.mem_restRefs_of main_arg1 (by decide) (by decide))).trans (V_main_arg1 m c),
       ((h.1 c).1 8).trans (((dats m Inv out 0 c).arrAt_in 8 rfl _).trans (V_main_arg2 m c)),
       ((h.1 c).2 main_arg3 (Pipeline.mem_restRefs_of main_arg3 (by decide) (by decide))).trans (V_main_arg3 m c),
       ((h.1 c).1 10).trans (((dats m Inv out 0 c).arrAt_in 10 rfl _).trans (V_main_arg4 m c)),
       ((h.1 c).2 main_arg5 (Pipeline.mem_restRefs_of main_arg5 (by decide) (by decide))).trans (V_main_arg5 m c)⟩)

end Launch

end Cert.KernelIdeal.Body

end
-- ==== Proof.KernelFrame.lean ====
/-
  The program read at machine floats and the program read at the reals are one text: what is proved of the runs of the one at any
  floats holds of the other.
-/
module

public import proofs.«01_k».proof.Defs
public import proofs.«01_k».proof.Proof.Frames
public import proofs.«01_k».proof.Proof.Gen.Kernel

@[expose] public section

set_option maxRecDepth 65536

noncomputable section

namespace Cert.Proof

open Idealize.ShloMosaic Idealize.SL.Sem

attribute [local instance] Cert.Kernel.Gen.facts Cert.KernelIdeal.Gen.facts

/-- The two programs' bodies are one definition, label by label. -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- So are their definitions with the pipeline's added. -/
theorem defs_same {F : FTy → Type} [FloatOps F] : Cert.Kernel.defs (F := F) = Cert.KernelIdeal.defs (F := F) :=
  congrArg (Pipeline.defs (Cert.KernelIdeal.pcfgs (F := F))) defs₀_same

/-- The kernel at machine floats keeps its arguments and ends quiescent. -/
theorem quiescent_kernel : Cert.quiescent_Kernel := fun m g _ =>
  (congrArg (fun D => θ_run D (onTc (τ := Cert.KernelIdeal.τ) (Cert.KernelIdeal.main (F := Bits))) ⟨m, fun _ => 0, g⟩ _) (defs_same (F := Bits))).mpr
    (Cert.KernelIdeal.Body.run_forget (F := Bits) m (fun _ _ _ => True) (fun _ _ => Classical.choice inferInstance) (fun _ _ => trivial) g
      (fun _ _ _ _ => True) (Cert.KernelIdeal.Body.step_any m))

/-- The kernel at the reals likewise. -/
theorem quiescent_kernelIdeal : Cert.quiescent_KernelIdeal := fun m g _ =>
  Cert.KernelIdeal.Body.run_forget (F := Ideal) m (fun _ _ _ => True) (fun _ _ => Classical.choice inferInstance) (fun _ _ => trivial) g
    (fun _ _ _ _ => True) (Cert.KernelIdeal.Body.step_any m)

end Cert.Proof

end
-- ==== Proof.ReferenceFrame.lean ====
/-
  The reference at the reals keeps its arguments and ends quiescent.
-/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

attribute [local instance] Cert.ReferenceIdeal.Gen.facts

/-- The reference is a straight line of array operations: it ends, its arguments unchanged, with no counter moved. -/
theorem quiescent_referenceIdeal : Cert.quiescent_ReferenceIdeal := fun m g _ =>
  (θ_run Cert.ReferenceIdeal.defs _ _).mono (fun _ h => ⟨fun c => (h c).2, sem_eq_zero_of_no_sems rfl _⟩) (Cert.ReferenceIdeal.Value.run m g)

end Cert.Proof

end
-- ==== Proof.Spec.lean ====
/-
  The network's mathematics, on node and feature numbers alone: the embedding of a leaf, the embedding of an inner node from its
  two children, and the embedding a node has after so many levels. And the one identity about sums that packing four nodes in a
  row of lanes rests on.
-/
module

public import Idealize.ShloMosaic.Lib.Pipeline.ValueKit

@[expose] public section

noncomputable section

namespace Cert.Spec

open scoped BigOperators

/-- The inputs that count, read on numbers: the nodes' contents (node, feature), the leaf weights (hidden, feature), the leaf
    bias, the inner weights (hidden, input) and the inner bias. -/
structure Net where
  /-- Contents, by node and feature. -/
  C : ℕ → ℕ → EReal
  /-- Leaf weights, by hidden unit and feature. -/
  Wu : ℕ → ℕ → EReal
  /-- Leaf bias. -/
  bu : ℕ → EReal
  /-- Inner weights, by hidden unit and input. -/
  Wh : ℕ → ℕ → EReal
  /-- Inner bias. -/
  bh : ℕ → EReal

namespace Net

variable (p : Net)

/-- A node's own embedding: one layer over its contents. -/
def own (n h : ℕ) : EReal := max ((∑ f : Fin 64, p.C n f.val * p.Wu h f.val) + p.bu h) 0

/-- An inner node's embedding, `e` being its children's: node `n` has the children `2n + 16` and `2n + 17`. -/
def join (e : ℕ → ℕ → EReal) (n h : ℕ) : EReal :=
  max (((∑ k : Fin 64, e (2 * n + 16 + k.val / 32) (k.val % 32) * p.Wh h k.val)
    + ∑ k : Fin 32, p.own n k.val * p.Wh h (64 + k.val)) + p.bh h) 0

/-- A node's embedding when `d` levels lie below it. -/
def emb : ℕ → ℕ → ℕ → EReal
  | 0 => p.own
  | d + 1 => p.join (emb d)

end Net

/-- Four nodes in a row of 128 lanes: lane `l` of row `R` is hidden unit `l % 32` of node `4R + l / 32`. -/
def pack (e : ℕ → ℕ → EReal) (R l : ℕ) : EReal := e (4 * R + l / 32) (l % 32)

/-- A sum against one block of a block matrix: of `G` blocks of `w` terms only block `g` counts. -/
theorem sum_block (G w : ℕ) (hw : 0 < w) (a : ℕ → EReal) (b : ℕ → EReal) (g : ℕ) (hg : g < G) :
    ∑ k : Fin (G * w), a k.val * (if k.val / w = g then b (k.val % w) else 0) = ∑ j : Fin w, a (w * g + j.val) * b j.val := by
  rw [← Equiv.sum_comp finProdFinEquiv, Fintype.sum_prod_type, Finset.sum_eq_single (⟨g, hg⟩ : Fin G)]
  · refine Finset.sum_congr rfl fun j _ => ?_
    have h1 : (finProdFinEquiv ((⟨g, hg⟩ : Fin G), j)).val = w * g + j.val := by
      rw [finProdFinEquiv_apply_val, Nat.add_comm]
    rw [h1, if_pos (by rw [Nat.mul_add_div hw, Nat.div_eq_of_lt j.isLt, Nat.add_zero]),
      show (w * g + j.val) % w = j.val by rw [Nat.mul_add_mod, Nat.mod_eq_of_lt j.isLt]]
  · intro x _ hx
    refine Finset.sum_eq_zero fun j _ => ?_
    have h1 : (finProdFinEquiv (x, j)).val = w * x.val + j.val := by
      rw [finProdFinEquiv_apply_val, Nat.add_comm]
    rw [h1, if_neg, mul_zero]
    rw [Nat.mul_add_div hw, Nat.div_eq_of_lt j.isLt, Nat.add_zero]
    exact fun h => hx (Fin.ext h)
  · exact fun h => absurd (Finset.mem_univ _) h

/-- The same where no block counts. -/
theorem sum_block_none (G w : ℕ) (a : ℕ → EReal) (b : ℕ → EReal) (c : ℕ → Prop) [DecidablePred c] (h : ∀ k, k < G * w → ¬ c k) :
    ∑ k : Fin (G * w), a k.val * (if c k.val then b (k.val % w) else 0) = 0 :=
  Finset.sum_eq_zero fun k _ => by rw [if_neg (h k.val k.isLt), mul_zero]

end Cert.Spec

end
-- ==== Proof.Chunk.lean ====
/-
  One chunk of a tree level and one chunk of the leaf level, at any number of rows: the terms the kernel stores, read at a row and
  a lane, and what they are for block-diagonal weights.
-/
module

public import proofs.«01_k».proof.Proof.Spec
public import Idealize.ShloMosaic.Lib.MatmulPlain
public import Idealize.ShloMosaic.Lib.Pipeline.ValueKit

@[expose] public section

set_option maxRecDepth 16384

noncomputable section

namespace Cert.Spec

open Idealize.ShloMosaic hiding ix0 ix1 ix2 ix3 ix4 ix5
open Idealize.ShloMosaic.ValueIdx
open scoped BigOperators

/-- A rank-2 vector of `r` rows of `c` lanes. -/
abbrev Mat (r c : ℕ) : Type := FVec Ideal ⟨2, ![r, c]⟩ .f32

/-- The zero accumulator. -/
abbrev zeroMat (r c : ℕ) : Mat r c := constant (F := Ideal) ⟨2, ![r, c]⟩ .f32 0x00000000#32

/-- What a chunk of a tree level stores, from the weights, the children rows `ev` and `od`, and the nodes' own rows `uu`. -/
def chunkTerm {n : ℕ} (hb : (⟨2, ![1, 128]⟩ : Shape).Broadcasts ⟨2, ![n, 128]⟩) (lo hi wc : Mat 128 128) (bh : Mat 1 128)
    (ev od uu : Mat n 128) : Mat n 128 :=
  maximumf (addf (addf (addf (matmul (DotDims.plain n 128 128) none ev lo (zeroMat n 128))
      (matmul (DotDims.plain n 128 128) none od hi (zeroMat n 128)))
      (matmul (DotDims.plain n 128 128) none uu wc (zeroMat n 128)))
      (broadcastTo ⟨2, ![n, 128]⟩ bh hb))
    (broadcast ⟨2, ![n, 128]⟩ (Scalar.ofBits (F := Ideal) .f32 0x00000000#32))

/-- The tree weights as the kernel lays them out: four copies of each block on a diagonal. -/
structure TreeWeights (p : Net) (lo hi wc : Mat 128 128) (bh : Mat 1 128) : Prop where
  /-- Even children feed groups 0 and 1. -/
  lo : ∀ k l : Fin 128, lo (ix2 k l) = if k.val / 64 = l.val / 32 then p.Wh (l.val % 32) (k.val % 64) else 0
  /-- Odd children feed groups 2 and 3. -/
  hi : ∀ k l : Fin 128, hi (ix2 k l) = if k.val / 64 + 2 = l.val / 32 then p.Wh (l.val % 32) (k.val % 64) else 0
  /-- The node's own embedding. -/
  wc : ∀ k l : Fin 128, wc (ix2 k l) = if k.val / 32 = l.val / 32 then p.Wh (l.val % 32) (64 + k.val % 32) else 0
  /-- The bias. -/
  bh : ∀ l : Fin 128, bh (ix2 0 l) = p.bh (l.val % 32)

theorem plain_apply {M K N : ℕ} (lhs : Mat M K) (rhs : Mat K N) (r : Fin M) (c : Fin N) :
    matmul (DotDims.plain M K N) none lhs rhs (zeroMat M N) (ix2 r c) = ∑ k : Fin K, lhs (ix2 r k) * rhs (ix2 k c) := by
  refine (Ideal.matmul_plain_apply none lhs rhs (zeroMat M N) r c).trans ?_
  show Ideal.ofBits .f32 0x00000000#32 + _ = _
  rw [Ideal.ofBits_zero_f32, zero_add]

theorem bias_apply {n : ℕ} (hb : (⟨2, ![1, 128]⟩ : Shape).Broadcasts ⟨2, ![n, 128]⟩) (b : Mat 1 128) (r : Fin n) (l : Fin 128) :
    broadcastTo ⟨2, ![n, 128]⟩ b hb (ix2 r l) = b (ix2 0 l) := by
  refine Idealize.ShloMosaic.broadcastTo_apply b hb _ _ fun a => ?_
  match a with
  | ⟨0, _⟩ => rfl
  | ⟨1, _⟩ => rfl

theorem chunkTerm_apply {n : ℕ} (hb : (⟨2, ![1, 128]⟩ : Shape).Broadcasts ⟨2, ![n, 128]⟩) (lo hi wc : Mat 128 128) (bh : Mat 1 128)
    (ev od uu : Mat n 128) (r : Fin n) (l : Fin 128) :
    chunkTerm hb lo hi wc bh ev od uu (ix2 r l)
      = max ((((∑ k : Fin 128, ev (ix2 r k) * lo (ix2 k l)) + ∑ k : Fin 128, od (ix2 r k) * hi (ix2 k l))
          + ∑ k : Fin 128, uu (ix2 r k) * wc (ix2 k l)) + bh (ix2 0 l)) 0 := by
  unfold chunkTerm
  rw [ValueIdx.maximumf_apply, ValueIdx.addf_apply, ValueIdx.addf_apply, ValueIdx.addf_apply, plain_apply, plain_apply, plain_apply,
    bias_apply, ValueIdx.broadcast_apply]
  rw [show (Scalar.ofBits (F := Ideal) .f32 0x00000000#32 : EReal) = 0 from Ideal.ofBits_zero_f32]

/-- A chunk's value: row `r` of the chunk is row `q + r` of the tree, its children's rows are the two rows from `2(q + r) + 4`. -/
theorem chunk_value (p : Net) {n : ℕ} (hb : (⟨2, ![1, 128]⟩ : Shape).Broadcasts ⟨2, ![n, 128]⟩) {lo hi wc : Mat 128 128} {bh : Mat 1 128}
    (hw : TreeWeights p lo hi wc bh) {ev od uu : Mat n 128} (d q : ℕ)
    (hev : ∀ (r : Fin n) (l : Fin 128), ev (ix2 r l) = pack (p.emb d) (2 * (q + r.val) + 4) l.val)
    (hod : ∀ (r : Fin n) (l : Fin 128), od (ix2 r l) = pack (p.emb d) (2 * (q + r.val) + 5) l.val)
    (huu : ∀ (r : Fin n) (l : Fin 128), uu (ix2 r l) = pack p.own (q + r.val) l.val) (r : Fin n) (l : Fin 128) :
    chunkTerm hb lo hi wc bh ev od uu (ix2 r l) = pack (p.emb (d + 1)) (q + r.val) l.val := by
  have hl := l.isLt
  rw [chunkTerm_apply, hw.bh]
  simp only [hev, hod, huu, hw.lo, hw.hi, hw.wc]
  have own : ∑ k : Fin 128, pack p.own (q + r.val) k.val * (if k.val / 32 = l.val / 32 then p.Wh (l.val % 32) (64 + k.val % 32) else 0)
      = ∑ k : Fin 32, p.own (4 * (q + r.val) + l.val / 32) k.val * p.Wh (l.val % 32) (64 + k.val) := by
    refine (sum_block 4 32 (by decide) (fun k => pack p.own (q + r.val) k) (fun k => p.Wh (l.val % 32) (64 + k)) (l.val / 32) (by omega)).trans ?_
    refine Finset.sum_congr rfl fun k _ => ?_
    have hk := k.isLt
    show pack _ _ _ * _ = _
    unfold pack
    rw [show (32 * (l.val / 32) + k.val) / 32 = l.val / 32 by omega, show (32 * (l.val / 32) + k.val) % 32 = k.val by omega]
  rw [own]
  have kids : (∑ k : Fin 128, pack (p.emb d) (2 * (q + r.val) + 4) k.val * (if k.val / 64 = l.val / 32 then p.Wh (l.val % 32) (k.val % 64) else 0))
      + (∑ k : Fin 128, pack (p.emb d) (2 * (q + r.val) + 5) k.val * (if k.val / 64 + 2 = l.val / 32 then p.Wh (l.val % 32) (k.val % 64) else 0))
      = ∑ k : Fin 64, p.emb d (2 * (4 * (q + r.val) + l.val / 32) + 16 + k.val / 32) (k.val % 32) * p.Wh (l.val % 32) k.val := by
    by_cases hlow : l.val < 64
    · rw [sum_block_none 2 64 (fun k => pack (p.emb d) (2 * (q + r.val) + 5) k) (fun k => p.Wh (l.val % 32) k) (fun k => k / 64 + 2 = l.val / 32)
        (fun k hk => by omega), add_zero]
      refine (sum_block 2 64 (by decide) (fun k => pack (p.emb d) (2 * (q + r.val) + 4) k) (fun k => p.Wh (l.val % 32) k) (l.val / 32) (by omega)).trans ?_
      refine Finset.sum_congr rfl fun k _ => ?_
      have hk := k.isLt
      show pack _ _ _ * _ = _
      unfold pack
      rw [show 4 * (2 * (q + r.val) + 4) + (64 * (l.val / 32) + k.val) / 32 = 2 * (4 * (q + r.val) + l.val / 32) + 16 + k.val / 32 by omega,
        show (64 * (l.val / 32) + k.val) % 32 = k.val % 32 by omega]
    · rw [sum_block_none 2 64 (fun k => pack (p.emb d) (2 * (q + r.val) + 4) k) (fun k => p.Wh (l.val % 32) k) (fun k => k / 64 = l.val / 32)
        (fun k hk => by omega), zero_add]
      have hc : ∀ k : Fin 128, (k.val / 64 + 2 = l.val / 32) = (k.val / 64 = l.val / 32 - 2) := fun k => propext (by omega)
      simp only [hc]
      refine (sum_block 2 64 (by decide) (fun k => pack (p.emb d) (2 * (q + r.val) + 5) k) (fun k => p.Wh (l.val % 32) k) (l.val / 32 - 2) (by omega)).trans ?_
      refine Finset.sum_congr rfl fun k _ => ?_
      have hk := k.isLt
      show pack _ _ _ * _ = _
      unfold pack
      rw [show 4 * (2 * (q + r.val) + 5) + (64 * (l.val / 32 - 2) + k.val) / 32 = 2 * (4 * (q + r.val) + l.val / 32) + 16 + k.val / 32 by omega,
        show (64 * (l.val / 32 - 2) + k.val) % 32 = k.val % 32 by omega]
  rw [kids]
  rfl

/-! ## The leaf level -/

/-- The leaf weights as the kernel lays them out. -/
structure LeafWeights (p : Net) (wu : Mat 256 128) (bu : Mat 1 128) : Prop where
  /-- Four copies of the block on the diagonal. -/
  wu : ∀ (k : Fin 256) (l : Fin 128), wu (ix2 k l) = if k.val / 64 = l.val / 32 then p.Wu (l.val % 32) (k.val % 64) else 0
  /-- The bias. -/
  bu : ∀ l : Fin 128, bu (ix2 0 l) = p.bu (l.val % 32)

/-- What a chunk of the leaf level stores before the final clip, from four rows of contents side by side. -/
def leafSum {n : ℕ} (hb : (⟨2, ![1, 128]⟩ : Shape).Broadcasts ⟨2, ![n, 128]⟩) (x : Mat n 256) (wu : Mat 256 128) (bu : Mat 1 128) : Mat n 128 :=
  addf (matmul (DotDims.plain n 256 128) none x wu (zeroMat n 128)) (broadcastTo ⟨2, ![n, 128]⟩ bu hb)

/-- And after it. -/
def leafTerm {n : ℕ} (hb : (⟨2, ![1, 128]⟩ : Shape).Broadcasts ⟨2, ![n, 128]⟩) (x : Mat n 256) (wu : Mat 256 128) (bu : Mat 1 128) : Mat n 128 :=
  maximumf (leafSum hb x wu bu) (broadcast ⟨2, ![n, 128]⟩ (Scalar.ofBits (F := Ideal) .f32 0x00000000#32))

/-- A leaf chunk's value at row `r`, lane `l`: for contents `x (r, 64 g + f)` of node `4 (q + r) + g`, the own embeddings of row
    `q + r`. -/
theorem leaf_value (p : Net) {n : ℕ} (hb : (⟨2, ![1, 128]⟩ : Shape).Broadcasts ⟨2, ![n, 128]⟩) {wu : Mat 256 128} {bu : Mat 1 128}
    (hw : LeafWeights p wu bu) {x : Mat n 256} (q : ℕ) (r : Fin n) (l : Fin 128)
    (hx : ∀ k : Fin 256, k.val / 64 = l.val / 32 → x (ix2 r k) = p.C (4 * (q + r.val) + k.val / 64) (k.val % 64)) :
    leafTerm hb x wu bu (ix2 r l) = pack p.own (q + r.val) l.val := by
  have hl := l.isLt
  unfold leafTerm leafSum
  rw [ValueIdx.maximumf_apply, ValueIdx.addf_apply, plain_apply, bias_apply, ValueIdx.broadcast_apply, hw.bu]
  rw [show (Scalar.ofBits (F := Ideal) .f32 0x00000000#32 : EReal) = 0 from Ideal.ofBits_zero_f32]
  have hs : ∑ k : Fin 256, x (ix2 r k) * wu (ix2 k l)
      = ∑ f : Fin 64, p.C (4 * (q + r.val) + l.val / 32) f.val * p.Wu (l.val % 32) f.val := by
    have h1 : ∀ k : Fin 256, x (ix2 r k) * wu (ix2 k l)
        = p.C (4 * (q + r.val) + k.val / 64) (k.val % 64) * (if k.val / 64 = l.val / 32 then p.Wu (l.val % 32) (k.val % 64) else 0) := fun k => by
      rw [hw.wu]
      by_cases hk : k.val / 64 = l.val / 32
      · rw [hx k hk]
      · rw [if_neg hk, mul_zero, mul_zero]
    rw [Finset.sum_congr rfl fun k _ => h1 k]
    refine (sum_block 4 64 (by decide) (fun k => p.C (4 * (q + r.val) + k / 64) (k % 64)) (fun k => p.Wu (l.val % 32) k) (l.val / 32) (by omega)).trans ?_
    refine Finset.sum_congr rfl fun k _ => ?_
    have hk := k.isLt
    show p.C _ _ * _ = _
    rw [show (64 * (l.val / 32) + k.val) / 64 = l.val / 32 by omega, show (64 * (l.val / 32) + k.val) % 64 = k.val by omega]
  rw [hs]
  rfl

end Cert.Spec

end
-- ==== Proof.Rows.lean ====
/-
  Buffers of whole rows read back: what a buffer holds on its first rows, what a list of stores of whole rows leaves there, and what
  loads at strided rows then read.
-/
module

public import proofs.«01_k».proof.Proof.Spec
public import Idealize.ShloMosaic.Lib.WritesUnit
public import Idealize.ShloMosaic.Lib.Exec.Geometry
public import Idealize.ShloMosaic.Lib.Pipeline.ValueKit

@[expose] public section

set_option maxRecDepth 16384

noncomputable section

namespace Cert.Spec

open Idealize.ShloMosaic hiding ix0 ix1 ix2 ix3 ix4 ix5
open Idealize.ShloMosaic.ValueIdx

variable {sig : RefSig} {κ : Kind} {sp : Space} {N W : ℕ} {v : View sig κ sp ⟨2, ![N, W]⟩ .f32}

/-- Through `v` the contents `f` hold `g` on the first `q` rows. -/
def Holds (v : View sig κ sp ⟨2, ![N, W]⟩ .f32) (f : v.ty.Contents (Elt Ideal)) (g : ℕ → ℕ → EReal) (q : ℕ) : Prop :=
  ∀ y : (⟨2, ![N, W]⟩ : Shape).Idx, (y 0).val < q → v.read (Elt Ideal) f y = g (y 0).val (y 1).val

/-- The stores `L` through `v` leave `g` on the first `q` rows, whatever was there. -/
def Filled (v : View sig κ sp ⟨2, ![N, W]⟩ .f32) (L : List (View.Piece (Elt Ideal) ⟨2, ![N, W]⟩ .f32)) (g : ℕ → ℕ → EReal) (q : ℕ) : Prop :=
  ∀ f, Holds v (v.writes (Elt Ideal) f L) g q

theorem Filled.none (L : List (View.Piece (Elt Ideal) ⟨2, ![N, W]⟩ .f32)) (g : ℕ → ℕ → EReal) : Filled v L g 0 :=
  fun _ _ h => absurd h (Nat.not_lt_zero _)

/-- One more store of whole rows, right after the rows already filled. -/
theorem Holds.step {f : v.ty.Contents (Elt Ideal)} {L : List (View.Piece (Elt Ideal) ⟨2, ![N, W]⟩ .f32)} {g : ℕ → ℕ → EReal} {o n : ℕ}
    (h : Holds v (v.writes (Elt Ideal) f L) g o) {off : Fin 2 → ℕ} {inb : ∀ a : Fin 2, off a + (![n, W] : Fin 2 → ℕ) a ≤ (![N, W] : Fin 2 → ℕ) a}
    {w : (⟨2, ![n, W]⟩ : Shape).Idx → Elt Ideal .f32} (hoff : off = ![o, 0]) (hw : ∀ (r : Fin n) (l : Fin W), w (ix2 r l) = g (o + r.val) l.val) :
    Holds v (v.writes (Elt Ideal) f (⟨Rect.unit (s := ⟨2, ![N, W]⟩) off ![n, W] inb, w⟩ :: L)) g (o + n) := by
  intro y hy
  by_cases ho : (y 0).val < o
  · refine Eq.trans (View.read_writes_cons_rows_of_not_mem v f inb w L y hoff rfl (Or.inl ho)) (h y ho)
  · refine Eq.trans (View.read_writes_cons_rows_of_mem v f inb w L y (ix2 (⟨(y 0).val - o, by omega⟩ : Fin n) (⟨(y 1).val, (y 1).isLt⟩ : Fin W))
      hoff ?_ rfl) ?_
    · show (y 0).val = o + ((y 0).val - o)
      omega
    · refine (hw _ _).trans ?_
      show g (o + ((y 0).val - o)) _ = _
      rw [show o + ((y 0).val - o) = (y 0).val by omega]

theorem Filled.step {L : List (View.Piece (Elt Ideal) ⟨2, ![N, W]⟩ .f32)} {g : ℕ → ℕ → EReal} {o n : ℕ} (h : Filled v L g o)
    {inb : ∀ a : Fin 2, (![o, 0] : Fin 2 → ℕ) a + (![n, W] : Fin 2 → ℕ) a ≤ (![N, W] : Fin 2 → ℕ) a}
    {w : (⟨2, ![n, W]⟩ : Shape).Idx → Elt Ideal .f32} (hw : ∀ (r : Fin n) (l : Fin W), w (ix2 r l) = g (o + r.val) l.val) :
    Filled v (⟨Rect.unit (s := ⟨2, ![N, W]⟩) ![o, 0] ![n, W] inb, w⟩ :: L) g (o + n) :=
  fun f => (h f).step rfl hw

/-- A load at strided rows of a buffer whose first rows are known. -/
theorem Holds.strided {f : v.ty.Contents (Elt Ideal)} {g : ℕ → ℕ → EReal} {q b s n : ℕ} (h : Holds v f g q)
    {inb : ∀ a : Fin 2, (![n, W] : Fin 2 → ℕ) a = 0 ∨ (![b, 0] : Fin 2 → ℕ) a + (![s, 1] : Fin 2 → ℕ) a * ((![n, W] : Fin 2 → ℕ) a - 1) < (![N, W] : Fin 2 → ℕ) a}
    (hq : b + s * n < q + s) (r : Fin n) (l : Fin W) :
    v.readAt (Elt Ideal) (⟨![b, 0], ![n, W], ![s, 1], inb⟩ : LoadRect ⟨2, ![N, W]⟩) f (ix2 r l) = g (b + s * r.val) l.val := by
  have h1 : s * r.val + s ≤ s * n := by rw [← Nat.mul_succ]; exact Nat.mul_le_mul_left _ r.isLt
  refine (h _ (show b + s * r.val < q by omega)).trans ?_
  show g (b + s * r.val) (0 + 1 * l.val) = _
  rw [Nat.one_mul, Nat.zero_add]

/-- A load of consecutive rows of it. -/
theorem Holds.rows {f : v.ty.Contents (Elt Ideal)} {g : ℕ → ℕ → EReal} {q b n : ℕ} (h : Holds v f g q)
    {inb : ∀ a : Fin 2, (![b, 0] : Fin 2 → ℕ) a + (![n, W] : Fin 2 → ℕ) a ≤ (![N, W] : Fin 2 → ℕ) a} (hq : b + n ≤ q) (r : Fin n) (l : Fin W) :
    v.readAt (Elt Ideal) (Rect.unit (s := ⟨2, ![N, W]⟩) ![b, 0] ![n, W] inb).toLoadRect f (ix2 r l) = g (b + r.val) l.val := by
  have := r.isLt
  refine (h _ (show b + 1 * r.val < q by omega)).trans ?_
  show g (b + 1 * r.val) (0 + 1 * l.val) = _
  rw [Nat.one_mul, Nat.one_mul, Nat.zero_add]

/-- One more store of whole rows, of which only those before row `q` are known. -/
theorem Holds.stepTo {f : v.ty.Contents (Elt Ideal)} {L : List (View.Piece (Elt Ideal) ⟨2, ![N, W]⟩ .f32)} {g : ℕ → ℕ → EReal} {o n q : ℕ}
    (h : Holds v (v.writes (Elt Ideal) f L) g (min o q)) {off : Fin 2 → ℕ} {inb : ∀ a : Fin 2, off a + (![n, W] : Fin 2 → ℕ) a ≤ (![N, W] : Fin 2 → ℕ) a}
    {w : (⟨2, ![n, W]⟩ : Shape).Idx → Elt Ideal .f32} (hoff : off = ![o, 0])
    (hw : ∀ (r : Fin n) (l : Fin W), o + r.val < q → w (ix2 r l) = g (o + r.val) l.val) :
    Holds v (v.writes (Elt Ideal) f (⟨Rect.unit (s := ⟨2, ![N, W]⟩) off ![n, W] inb, w⟩ :: L)) g (min (o + n) q) := by
  intro y hy
  by_cases ho : (y 0).val < o
  · exact Eq.trans (View.read_writes_cons_rows_of_not_mem v f inb w L y hoff rfl (Or.inl ho)) (h y (by omega))
  · refine Eq.trans (View.read_writes_cons_rows_of_mem v f inb w L y (ix2 (⟨(y 0).val - o, by omega⟩ : Fin n) (⟨(y 1).val, (y 1).isLt⟩ : Fin W))
      hoff (show (y 0).val = o + ((y 0).val - o) by omega) rfl) ?_
    refine (hw _ _ (show o + ((y 0).val - o) < q by omega)).trans ?_
    show g (o + ((y 0).val - o)) _ = _
    rw [show o + ((y 0).val - o) = (y 0).val by omega]

/-- One row of a load at strided rows. -/
theorem Holds.strided_at {f : v.ty.Contents (Elt Ideal)} {g : ℕ → ℕ → EReal} {q b s n : ℕ} (h : Holds v f g q)
    {inb : ∀ a : Fin 2, (![n, W] : Fin 2 → ℕ) a = 0 ∨ (![b, 0] : Fin 2 → ℕ) a + (![s, 1] : Fin 2 → ℕ) a * ((![n, W] : Fin 2 → ℕ) a - 1) < (![N, W] : Fin 2 → ℕ) a}
    (r : Fin n) (hq : b + s * r.val < q) (l : Fin W) :
    v.readAt (Elt Ideal) (⟨![b, 0], ![n, W], ![s, 1], inb⟩ : LoadRect ⟨2, ![N, W]⟩) f (ix2 r l) = g (b + s * r.val) l.val := by
  refine (h _ hq).trans ?_
  show g (b + s * r.val) (0 + 1 * l.val) = _
  rw [Nat.one_mul, Nat.zero_add]

/-- A load of everything is a read. -/
theorem readAt_whole (v : View sig κ sp ⟨2, ![N, W]⟩ .f32) (f : v.ty.Contents (Elt Ideal))
    (inb : ∀ a : Fin 2, (![0, 0] : Fin 2 → ℕ) a + (![N, W] : Fin 2 → ℕ) a ≤ (![N, W] : Fin 2 → ℕ) a) :
    v.readAt (Elt Ideal) (Rect.unit (s := ⟨2, ![N, W]⟩) ![0, 0] ![N, W] inb).toLoadRect f = v.read (Elt Ideal) f :=
  funext fun x => congrArg (v.read (Elt Ideal) f) (funext (Fin.forall_fin_two.mpr
    ⟨Fin.ext (show 0 + 1 * (x 0).val = (x 0).val by omega), Fin.ext (show 0 + 1 * (x 1).val = (x 1).val by omega)⟩))

end Cert.Spec

end
-- ==== Proof.LeafValue.lean ====
/-
  The leaf level: what the eight stores of a grid point leave in the buffer of own embeddings.
-/
module

public import proofs.«01_k».proof.Proof.Chunk
public import proofs.«01_k».proof.Proof.Rows
public import proofs.«01_k».proof.Proof.RunLeaf

@[expose] public section

set_option maxRecDepth 65536

noncomputable section

namespace Cert.Spec

open Idealize.ShloMosaic hiding ix0 ix1 ix2 ix3 ix4 ix5
open Idealize.ShloMosaic.ValueIdx

/-- Four blocks of 64 lanes side by side, read at one row. -/
theorem side_by_side {n : ℕ} {x0 x1 x2 x3 : Mat n 64} {G : ℕ → ℕ → EReal}
    {h : Shape.Concatenates [⟨2, ![n, 64]⟩, ⟨2, ![n, 64]⟩, ⟨2, ![n, 64]⟩, ⟨2, ![n, 64]⟩] ⟨2, ![n, 256]⟩ 1} (r : Fin n)
    (h0 : ∀ f : Fin 64, x0 (ix2 r f) = G 0 f.val) (h1 : ∀ f : Fin 64, x1 (ix2 r f) = G 1 f.val) (h2 : ∀ f : Fin 64, x2 (ix2 r f) = G 2 f.val)
    (h3 : ∀ f : Fin 64, x3 (ix2 r f) = G 3 f.val) (k : Fin 256) :
    concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] h (ix2 r k)
      = G (k.val / 64) (k.val % 64) := by
  have hk := k.isLt
  have e : ∀ (o : ℕ) (ho : k.val - o < 64) {y : (⟨2, ![n, 64]⟩ : Shape).Idx}, (y 0).val = r.val → (y 1).val = k.val - o → y = ix2 r (⟨k.val - o, ho⟩ : Fin 64) :=
    fun o ho y h0 h1 => funext (Fin.forall_fin_two.mpr ⟨Fin.ext h0, Fin.ext h1⟩)
  have q : ∀ g : ℕ, 64 * g ≤ k.val → k.val - 64 * g < 64 → G g (k.val - 64 * g) = G (k.val / 64) (k.val % 64) := fun g h h' => by
    rw [show k.val / 64 = g by omega, show k.val % 64 = k.val - 64 * g by omega]
  pointwise
  split_ifs with a b c
  · change k.val < 64 at a
    exact Eq.trans (congrArg x0 (e 0 a rfl rfl)) ((h0 _).trans (q 0 (by omega) (by omega)))
  · change ¬ k.val < 64 at a
    change k.val - 64 < 64 at b
    exact Eq.trans (congrArg x1 (e 64 b rfl rfl)) ((h1 _).trans (q 1 (by omega) (by omega)))
  · change ¬ k.val - 64 < 64 at b
    change k.val - 64 - 64 < 64 at c
    exact Eq.trans (congrArg x2 (e 128 (by omega) rfl (show k.val - 64 - 64 = k.val - 128 by omega))) ((h2 _).trans (q 2 (by omega) (by omega)))
  · change ¬ k.val - 64 - 64 < 64 at c
    exact Eq.trans (congrArg x3 (e 192 (by omega) rfl (show k.val - 64 - 64 - 64 = k.val - 192 by omega))) ((h3 _).trans (q 3 (by omega) (by omega)))

section Step

variable {sig : RefSig} {κ : Kind} {sp : Space} {v : View sig κ sp ⟨2, ![2048, 64]⟩ .f32} {f : v.ty.Contents (Elt Ideal)}

/-- A chunk's stored term: for a block of contents that starts at node `4 q`, the own embeddings from row `q` on. -/
theorem leaf_stored {p : Net} {q : ℕ} {hb : (⟨2, ![1, 128]⟩ : Shape).Broadcasts ⟨2, ![512, 128]⟩} {wu : Mat 256 128} {bu : Mat 1 128}
    (hw : LeafWeights p wu bu) {P : Mat 512 128} (hv : Holds v f (fun r => p.C (4 * q + r)) (131056 - 4 * q))
    {h : Shape.Concatenates [⟨2, ![512, 64]⟩, ⟨2, ![512, 64]⟩, ⟨2, ![512, 64]⟩, ⟨2, ![512, 64]⟩] ⟨2, ![512, 256]⟩ 1}
    {i0 i1 i2 i3} {hs : (⟨2, ![512, 128]⟩ : Shape).ShapeCasts ⟨2, ![512, 128]⟩}
    (hP : P = shapeCast ⟨2, ![512, 128]⟩ (leafTerm hb (concatenate ⟨2, ![512, 256]⟩ 1
      [⟨⟨2, ![512, 64]⟩, v.readAt (Elt Ideal) (⟨![0, 0], ![512, 64], ![4, 1], i0⟩ : LoadRect ⟨2, ![2048, 64]⟩) f⟩,
       ⟨⟨2, ![512, 64]⟩, v.readAt (Elt Ideal) (⟨![1, 0], ![512, 64], ![4, 1], i1⟩ : LoadRect ⟨2, ![2048, 64]⟩) f⟩,
       ⟨⟨2, ![512, 64]⟩, v.readAt (Elt Ideal) (⟨![2, 0], ![512, 64], ![4, 1], i2⟩ : LoadRect ⟨2, ![2048, 64]⟩) f⟩,
       ⟨⟨2, ![512, 64]⟩, v.readAt (Elt Ideal) (⟨![3, 0], ![512, 64], ![4, 1], i3⟩ : LoadRect ⟨2, ![2048, 64]⟩) f⟩] h) wu bu) hs)
    (r : Fin 512) (l : Fin 128) (hr : q + r.val < 32764) : P (ix2 r l) = pack p.own (q + r.val) l.val := by
  rw [hP, shapeCast_self]
  have e : ∀ (g : ℕ) (x : Fin 64), 4 * q + (g + 4 * r.val) = 4 * (q + r.val) + g := fun g _ => by omega
  refine leaf_value p hb hw q r l fun k _ => ?_
  exact side_by_side (G := fun g => p.C (4 * (q + r.val) + g)) r
    (fun x => (hv.strided_at r (by omega) x).trans (by simp only [e _ x]))
    (fun x => (hv.strided_at r (by omega) x).trans (by simp only [e _ x]))
    (fun x => (hv.strided_at r (by omega) x).trans (by simp only [e _ x]))
    (fun x => (hv.strided_at r (by omega) x).trans (by simp only [e _ x])) k

end Step

end Cert.Spec

namespace Cert.KernelIdeal.Body

open Cert.KernelIdeal Cert.KernelIdeal.Gen Cert.Spec
open Idealize.ShloMosaic hiding ix0 ix1 ix2 ix3 ix4 ix5
open Idealize.ShloMosaic.ValueIdx Idealize.ShloMosaic.TcCoe

/-- Where a grid point's stores go. -/
theorem off1_eq (t : Fin cfg0.N) (s : Fin 8) : k0_off1 (grid0.coords t) (BitVec.ofNat 32 (512 * s.val)) = ![4096 * t.val + 512 * s.val, 0] := by
  revert s
  rcases fin_N0 t with rfl | rfl | rfl | rfl | rfl | rfl | rfl | rfl | rfl <;> decide

section Rows

variable {sp : Space} {v : View sig .tc sp ⟨2, ![32768, 128]⟩ .f32} {f : v.ty.Contents (Elt Ideal)} {G : ℕ → ℕ → EReal}

/-- Eight stores of 512 rows each, one after the other. -/
theorem leaf_rows (t : Fin cfg0.N) {q : ℕ} {P0 P1 P2 P3 P4 P5 P6 P7 : Mat 512 128} {i0 i1 i2 i3 i4 i5 i6 i7}
    (hf : Holds v f G (min (4096 * t.val) q))
    (h0 : ∀ (r : Fin 512) (l : Fin 128), 4096 * t.val + r.val < q → P0 (ix2 r l) = G (4096 * t.val + r.val) l.val)
    (h1 : ∀ (r : Fin 512) (l : Fin 128), 4096 * t.val + 512 + r.val < q → P1 (ix2 r l) = G (4096 * t.val + 512 + r.val) l.val)
    (h2 : ∀ (r : Fin 512) (l : Fin 128), 4096 * t.val + 1024 + r.val < q → P2 (ix2 r l) = G (4096 * t.val + 1024 + r.val) l.val)
    (h3 : ∀ (r : Fin 512) (l : Fin 128), 4096 * t.val + 1536 + r.val < q → P3 (ix2 r l) = G (4096 * t.val + 1536 + r.val) l.val)
    (h4 : ∀ (r : Fin 512) (l : Fin 128), 4096 * t.val + 2048 + r.val < q → P4 (ix2 r l) = G (4096 * t.val + 2048 + r.val) l.val)
    (h5 : ∀ (r : Fin 512) (l : Fin 128), 4096 * t.val + 2560 + r.val < q → P5 (ix2 r l) = G (4096 * t.val + 2560 + r.val) l.val)
    (h6 : ∀ (r : Fin 512) (l : Fin 128), 4096 * t.val + 3072 + r.val < q → P6 (ix2 r l) = G (4096 * t.val + 3072 + r.val) l.val)
    (h7 : ∀ (r : Fin 512) (l : Fin 128), 4096 * t.val + 3584 + r.val < q → P7 (ix2 r l) = G (4096 * t.val + 3584 + r.val) l.val) :
    Holds v (v.writes (Elt Ideal) f
      [⟨Rect.unit (s := ⟨2, ![32768, 128]⟩) (k0_off1 (grid0.coords t) 3584#32) ![512, 128] i7, P7⟩,
       ⟨Rect.unit (s := ⟨2, ![32768, 128]⟩) (k0_off1 (grid0.coords t) 3072#32) ![512, 128] i6, P6⟩,
       ⟨Rect.unit (s := ⟨2, ![32768, 128]⟩) (k0_off1 (grid0.coords t) 2560#32) ![512, 128] i5, P5⟩,
       ⟨Rect.unit (s := ⟨2, ![32768, 128]⟩) (k0_off1 (grid0.coords t) 2048#32) ![512, 128] i4, P4⟩,
       ⟨Rect.unit (s := ⟨2, ![32768, 128]⟩) (k0_off1 (grid0.coords t) 1536#32) ![512, 128] i3, P3⟩,
       ⟨Rect.unit (s := ⟨2, ![32768, 128]⟩) (k0_off1 (grid0.coords t) 1024#32) ![512, 128] i2, P2⟩,
       ⟨Rect.unit (s := ⟨2, ![32768, 128]⟩) (k0_off1 (grid0.coords t) 512#32) ![512, 128] i1, P1⟩,
       ⟨Rect.unit (s := ⟨2, ![32768, 128]⟩) (k0_off1 (grid0.coords t) 0#32) ![512, 128] i0, P0⟩]) G (min (4096 * (t.val + 1)) q) := by
  have a0 := Holds.stepTo (L := []) (inb := i0) hf (off1_eq t 0) h0
  have a1 := Holds.stepTo (inb := i1) a0 (off1_eq t 1) h1
  have a2 := Holds.stepTo (inb := i2) a1 (off1_eq t 2) h2
  have a3 := Holds.stepTo (inb := i3) a2 (off1_eq t 3) h3
  have a4 := Holds.stepTo (inb := i4) a3 (off1_eq t 4) h4
  have a5 := Holds.stepTo (inb := i5) a4 (off1_eq t 5) h5
  have a6 := Holds.stepTo (inb := i6) a5 (off1_eq t 6) h6
  exact Holds.stepTo (inb := i7) a6 (off1_eq t 7) h7

end Rows

variable {c : Dev nD} {arg1 arg2 arg3 arg4 arg5 arg6 arg7 arg8 : Memref sig .tc .vmem S2048x64 .f32} {arg14 : Memref sig .tc .vmem S32768x128 .f32}
    {arg17 : Memref sig .tc .vmem S256x128 .f32} {arg21 : Memref sig .tc .vmem S1x128 .f32} {p : Net}
    {f1 : Bf Ideal c arg1} {f2 : Bf Ideal c arg2} {f3 : Bf Ideal c arg3} {f4 : Bf Ideal c arg4} {f5 : Bf Ideal c arg5} {f6 : Bf Ideal c arg6}
    {f7 : Bf Ideal c arg7} {f8 : Bf Ideal c arg8} {f14 : Bf Ideal c arg14} {f17 : Bf Ideal c arg17} {f21 : Bf Ideal c arg21}

/-- One block of contents in its staging buffer: its rows are the nodes from `4 q` on, as many as there are. -/
abbrev Block (p : Net) (q : ℕ) (arg : Memref sig .tc .vmem S2048x64 .f32) {c : Dev nD} (f : Bf Ideal c arg) : Prop :=
  Holds (N := 2048) (W := 64) arg.view f (fun r => p.C (4 * q + r)) (131056 - 4 * q)

/-- A grid point that reads the weights from their buffers. -/
theorem leaf_result (t : Fin cfg0.N) {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {arg9 : Memref sig .tc .vmem S32x64 .f32} {harg9 : arg9.IsWhole}
    {arg10 : Memref sig .tc .vmem S1x32 .f32} {harg10 : arg10.IsWhole} {arg11 : Memref sig .tc .vmem S32x96 .f32} {harg11 : arg11.IsWhole}
    {arg12 : Memref sig .tc .vmem S1x32 .f32} {harg12 : arg12.IsWhole} {arg13 : Memref sig .tc .vmem S16x32 .f32} {harg13 : arg13.IsWhole}
    {arg15 : Memref sig .tc .vmem S8192x128 .f32} {harg15 : arg15.IsWhole} {arg16 : Memref sig .tc .vmem S4096x128 .f32} {harg16 : arg16.IsWhole}
    {arg18 arg19 arg20 : Memref sig .tc .vmem S128x128 .f32} {harg18 : arg18.IsWhole} {harg19 : arg19.IsWhole} {harg20 : arg20.IsWhole}
    {arg22 : Memref sig .tc .vmem S1x128 .f32} {harg22 : arg22.IsWhole} {harg14 : arg14.IsWhole} {harg17 : arg17.IsWhole} {harg21 : arg21.IsWhole}
    {hc1 : ¬ AtFirst (grid0.coords t)} {hc2 : k0_cond2 (grid0.coords t) = 1#1} {hc3 : ¬ k0_cond3 (grid0.coords t) = 1#1}
    (hw : LeafWeights p (arg17.view.read (Elt Ideal) f17) (arg21.view.read (Elt Ideal) f21))
    (hu : Holds (N := 32768) (W := 128) arg14.view f14 (pack p.own) (min (4096 * t.val) 32764))
    (b1 : Block p (4096 * t.val) arg1 f1) (b2 : Block p (4096 * t.val + 512) arg2 f2) (b3 : Block p (4096 * t.val + 1024) arg3 f3)
    (b4 : Block p (4096 * t.val + 1536) arg4 f4) (b5 : Block p (4096 * t.val + 2048) arg5 f5) (b6 : Block p (4096 * t.val + 2560) arg6 f6)
    (b7 : Block p (4096 * t.val + 3072) arg7 f7) (b8 : Block p (4096 * t.val + 3584) arg8 f8) :
    Holds (N := 32768) (W := 128) arg14.view (arg14.view.writes (Elt Ideal) f14 (runLeaf c (grid0.coords t) arg1 harg1 arg2 harg2 arg3 harg3 arg4 harg4
      arg5 harg5 arg6 harg6 arg7 harg7 arg8 harg8 arg9 harg9 arg10 harg10 arg11 harg11 arg12 harg12 arg13 harg13 arg14 harg14 arg15 harg15 arg16 harg16
      arg17 harg17 arg18 harg18 arg19 harg19 arg20 harg20 arg21 harg21 arg22 harg22 hc1 hc2 hc3 f1 f2 f3 f4 f5 f6 f7 f8 f17 f21).val)
      (pack p.own) (min (4096 * (t.val + 1)) 32764) := by
  have hw' : LeafWeights p (arg17.view.readAt (Elt Ideal) (Rect.unit ![0, 0] S256x128.size inb_S256x128_S256x128_0_0).toLoadRect f17)
      (arg21.view.readAt (Elt Ideal) (Rect.unit ![0, 0] S1x128.size inb_S1x128_S1x128_0_0).toLoadRect f21) := by
    have h1 := readAt_whole arg17.view f17 inb_S256x128_S256x128_0_0
    have h2 := readAt_whole arg21.view f21 inb_S1x128_S1x128_0_0
    exact h1.symm ▸ h2.symm ▸ hw
  exact leaf_rows t hu (leaf_stored hw' b1 rfl) (leaf_stored hw' b2 rfl) (leaf_stored hw' b3 rfl) (leaf_stored hw' b4 rfl)
    (leaf_stored hw' b5 rfl) (leaf_stored hw' b6 rfl) (leaf_stored hw' b7 rfl) (leaf_stored hw' b8 rfl)

end Cert.KernelIdeal.Body

end
-- ==== Proof.FirstValue.lean ====
/-
  The first grid point: the block-diagonal weights it lays out, and the leaf rows it computes with them.
-/
module

public import proofs.«01_k».proof.Proof.LeafValue
public import proofs.«01_k».proof.Proof.RunFirst
public import Idealize.ShloMosaic.Lib.ValueLayout

@[expose] public section

set_option maxRecDepth 65536

noncomputable section

namespace Cert.Spec

open Idealize.ShloMosaic hiding ix0 ix1 ix2 ix3 ix4 ix5
open Idealize.ShloMosaic.ValueIdx

section Blocks

variable {sig : RefSig} {κ : Kind} {sp : Space} {M N : ℕ} {v : View sig κ sp ⟨2, ![M, N]⟩ .f32} {f : v.ty.Contents (Elt Ideal)}
    {L : List (View.Piece (Elt Ideal) ⟨2, ![M, N]⟩ .f32)}

/-- What is read after one more store of a block with corner `(a, b)`. -/
theorem read_block {a b m n : ℕ} {inb : ∀ x : Fin 2, (![a, b] : Fin 2 → ℕ) x + (![m, n] : Fin 2 → ℕ) x ≤ (![M, N] : Fin 2 → ℕ) x} {w : Mat m n}
    (G : ℕ → ℕ → EReal) (hw : ∀ (i : Fin m) (j : Fin n), w (ix2 i j) = G i.val j.val) (k : Fin M) (l : Fin N) :
    v.read (Elt Ideal) (v.writes (Elt Ideal) f (⟨Rect.unit (s := ⟨2, ![M, N]⟩) ![a, b] ![m, n] inb, w⟩ :: L)) (ix2 k l)
      = if a ≤ k.val ∧ k.val < a + m ∧ b ≤ l.val ∧ l.val < b + n then G (k.val - a) (l.val - b)
        else v.read (Elt Ideal) (v.writes (Elt Ideal) f L) (ix2 k l) := by
  by_cases h : a ≤ k.val ∧ k.val < a + m ∧ b ≤ l.val ∧ l.val < b + n
  · obtain ⟨h1, h2, h3, h4⟩ := h
    rw [if_pos ⟨h1, h2, h3, h4⟩]
    refine Eq.trans (View.read_writes_cons_unit_of_mem v f inb w L (ix2 k l)
      (ix2 (⟨k.val - a, by omega⟩ : Fin m) (⟨l.val - b, by omega⟩ : Fin n)) rfl (Fin.forall_fin_two.mpr ⟨?_, ?_⟩)) (hw _ _)
    · show k.val = a + (k.val - a)
      omega
    · show l.val = b + (l.val - b)
      omega
  · rw [if_neg h]
    by_cases hk : k.val < a ∨ a + m ≤ k.val
    · exact View.read_writes_cons_unit_of_not_mem v f inb w L (ix2 k l) rfl 0 hk
    · exact View.read_writes_cons_unit_of_not_mem v f inb w L (ix2 k l) rfl 1 (show l.val < b ∨ b + n ≤ l.val by omega)

/-- The same over what the stores before it are known to leave. -/
theorem read_over {a b m n : ℕ} {inb : ∀ x : Fin 2, (![a, b] : Fin 2 → ℕ) x + (![m, n] : Fin 2 → ℕ) x ≤ (![M, N] : Fin 2 → ℕ) x} {w : Mat m n}
    {G : ℕ → ℕ → EReal} (hw : ∀ (i : Fin m) (j : Fin n), w (ix2 i j) = G i.val j.val) {k : Fin M} {l : Fin N} {e : EReal}
    (he : v.read (Elt Ideal) (v.writes (Elt Ideal) f L) (ix2 k l) = e) :
    v.read (Elt Ideal) (v.writes (Elt Ideal) f (⟨Rect.unit (s := ⟨2, ![M, N]⟩) ![a, b] ![m, n] inb, w⟩ :: L)) (ix2 k l)
      = if a ≤ k.val ∧ k.val < a + m ∧ b ≤ l.val ∧ l.val < b + n then G (k.val - a) (l.val - b) else e := by
  rw [read_block G hw, he]

end Blocks

end Cert.Spec

namespace Cert.KernelIdeal.Body

open Cert.KernelIdeal Cert.KernelIdeal.Gen Cert.Spec
open Idealize.ShloMosaic hiding ix0 ix1 ix2 ix3 ix4 ix5
open Idealize.ShloMosaic.ValueIdx Idealize.ShloMosaic.TcCoe

section Weights

variable {c : Dev nD} {arg9 : Memref sig .tc .vmem S32x64 .f32} {arg10 arg12 : Memref sig .tc .vmem S1x32 .f32} {arg11 : Memref sig .tc .vmem S32x96 .f32}
    {f9 : Bf Ideal c arg9} {f10 : Bf Ideal c arg10} {f11 : Bf Ideal c arg11} {f12 : Bf Ideal c arg12} {p : Net}

/-- The four weight windows hold the network's. -/
structure Given (p : Net) (f9 : Bf Ideal c arg9) (f10 : Bf Ideal c arg10) (f11 : Bf Ideal c arg11) (f12 : Bf Ideal c arg12) : Prop where
  Wu : ∀ (h : Fin 32) (x : Fin 64), arg9.view.read (Elt Ideal) f9 (ix2 h x) = p.Wu h.val x.val
  bu : ∀ h : Fin 32, arg10.view.read (Elt Ideal) f10 (ix2 (0 : Fin 1) h) = p.bu h.val
  Wh : ∀ (h : Fin 32) (x : Fin 96), arg11.view.read (Elt Ideal) f11 (ix2 h x) = p.Wh h.val x.val
  bh : ∀ h : Fin 32, arg12.view.read (Elt Ideal) f12 (ix2 (0 : Fin 1) h) = p.bh h.val

variable (hg : Given p f9 f10 f11 f12)

include hg

/-- The transposed contents weights. -/
theorem wu_block (i : Fin 64) (j : Fin 32) : runFirst.sl.r c arg9 f9 (ix2 i j) = p.Wu j.val i.val := by
  have e : runFirst.sl.r c arg9 f9 = transpose S64x32 [1, 0]
      (arg9.view.readAt (Elt Ideal) (Rect.unit ![0, 0] S32x64.size inb_S32x64_S32x64_0_0).toLoadRect f9) transposes_S32x64_p1_0_S64x32 := rfl
  rw [e]
  refine (transpose_ix2_apply _ transposes_S32x64_p1_0_S64x32 i j).trans ?_
  exact (congrFun (readAt_whole arg9.view f9 inb_S32x64_S32x64_0_0) _).trans (hg.Wu j i)

/-- All the transposed tree weights. -/
theorem wh_block (i : Fin 96) (j : Fin 32) :
    k0_pay9 (arg11.view.readAt (Elt Ideal) (Rect.unit ![0, 0] S32x96.size inb_S32x96_S32x96_0_0).toLoadRect f11) (ix2 i j) = p.Wh j.val i.val := by
  unfold k0_pay9
  refine (transpose_ix2_apply _ transposes_S32x96_p1_0_S96x32 i j).trans ?_
  exact (congrFun (readAt_whole arg11.view f11 inb_S32x96_S32x96_0_0) _).trans (hg.Wh j i)

/-- Those that multiply the children. -/
theorem wp_block (i : Fin 64) (j : Fin 32) : runFirst.sl.r_1 c arg11 f11 (ix2 i j) = p.Wh j.val i.val := by
  have hi := i.isLt
  have e : runFirst.sl.r_1 c arg11 f11 = extractStridedSlice S64x32 ![0, 0]
      (k0_pay9 (arg11.view.readAt (Elt Ideal) (Rect.unit ![0, 0] S32x96.size inb_S32x96_S32x96_0_0).toLoadRect f11)) slices_S96x32_o0_0_S64x32 := rfl
  rw [e]
  exact (Idealize.ShloMosaic.extractStridedSlice_apply ![0, 0] _ slices_S96x32_o0_0_S64x32 (ix2 i j)
    (ix2 (⟨i.val, by omega⟩ : Fin 96) j) (Fin.forall_fin_two.mpr ⟨(Nat.zero_add _).symm, (Nat.zero_add _).symm⟩)).trans (wh_block hg _ j)

/-- Those that multiply the node's own embedding. -/
theorem wc_block (i : Fin 32) (j : Fin 32) : runFirst.sl.r_2 c arg11 f11 (ix2 i j) = p.Wh j.val (64 + i.val) := by
  have hi := i.isLt
  have e : runFirst.sl.r_2 c arg11 f11 = extractStridedSlice S32x32 ![64, 0]
      (k0_pay9 (arg11.view.readAt (Elt Ideal) (Rect.unit ![0, 0] S32x96.size inb_S32x96_S32x96_0_0).toLoadRect f11)) slices_S96x32_o64_0_S32x32 := rfl
  rw [e]
  exact (Idealize.ShloMosaic.extractStridedSlice_apply ![64, 0] _ slices_S96x32_o64_0_S32x32 (ix2 i j)
    (ix2 (⟨64 + i.val, by omega⟩ : Fin 96) j) (Fin.forall_fin_two.mpr ⟨rfl, (Nat.zero_add _).symm⟩)).trans (wh_block hg _ j)

/-- The contents weights after the first grid point, whatever the buffer held. -/
theorem wu_written {arg17 : Memref sig .tc .vmem S256x128 .f32} (g : Bf Ideal c arg17) (k : Fin 256) (l : Fin 128) :
    arg17.view.read (Elt Ideal) (arg17.view.writes (Elt Ideal) g (runFirst.sl.H17_5 c arg9 f9)) (ix2 k l)
      = if k.val / 64 = l.val / 32 then p.Wu (l.val % 32) (k.val % 64) else 0 := by
  have hk := k.isLt
  have hl := l.isLt
  have hb : ∀ (i : Fin 64) (j : Fin 32), runFirst.sl.v49 c arg9 f9 (ix2 i j) = (fun a b => p.Wu b a) i.val j.val := fun i j =>
    (congrFun (shapeCast_self _ _) _).trans (wu_block hg i j)
  have hz : ∀ (i : Fin 256) (j : Fin 128), (k0_pay12 (F := Ideal)) (ix2 i j) = (fun _ _ => 0) i.val j.val := fun i j => by
    unfold k0_pay12
    rw [shapeCast_self]
    exact Ideal.ofBits_zero_f32
  refine (read_over (inb := by decide) (G := fun a b => p.Wu b a) hb (read_over (inb := by decide) (G := fun a b => p.Wu b a) hb (read_over (inb := by decide) (G := fun a b => p.Wu b a) hb (read_over (inb := by decide) (G := fun a b => p.Wu b a) hb
    (read_over (inb := by decide) (L := []) (G := fun _ _ => 0) hz rfl))))).trans ?_
  split_ifs <;> first | rfl | omega | (congr 1 <;> omega)

/-- The even children's weights. -/
theorem lo_written {arg18 : Memref sig .tc .vmem S128x128 .f32} (g : Bf Ideal c arg18) (k : Fin 128) (l : Fin 128) :
    arg18.view.read (Elt Ideal) (arg18.view.writes (Elt Ideal) g (runFirst.sl.H18_3 c arg11 f11)) (ix2 k l)
      = if k.val / 64 = l.val / 32 then p.Wh (l.val % 32) (k.val % 64) else 0 := by
  have hk := k.isLt
  have hl := l.isLt
  have hb : ∀ (i : Fin 64) (j : Fin 32), shapeCast S64x32 (runFirst.sl.r_1 c arg11 f11) shapeCasts_S64x32_S64x32 (ix2 i j)
      = (fun a b => p.Wh b a) i.val j.val := fun i j =>
    (congrFun (shapeCast_self _ _) _).trans (wp_block hg i j)
  have hz : ∀ (i : Fin 128) (j : Fin 128), (k0_pay13 (F := Ideal)) (ix2 i j) = (fun _ _ => 0) i.val j.val := fun i j => by
    unfold k0_pay13
    rw [shapeCast_self]
    exact Ideal.ofBits_zero_f32
  refine (read_over (inb := by decide) (G := fun a b => p.Wh b a) hb (read_over (inb := by decide) (G := fun a b => p.Wh b a) hb (read_over (inb := by decide) (L := []) (G := fun _ _ => 0) hz rfl))).trans ?_
  split_ifs <;> first | rfl | omega | (congr 1 <;> omega)

/-- The odd children's weights. -/
theorem hi_written {arg19 : Memref sig .tc .vmem S128x128 .f32} (g : Bf Ideal c arg19) (k : Fin 128) (l : Fin 128) :
    arg19.view.read (Elt Ideal) (arg19.view.writes (Elt Ideal) g (runFirst.sl.H19_3 c arg11 f11)) (ix2 k l)
      = if k.val / 64 + 2 = l.val / 32 then p.Wh (l.val % 32) (k.val % 64) else 0 := by
  have hk := k.isLt
  have hl := l.isLt
  have hb : ∀ (i : Fin 64) (j : Fin 32), shapeCast S64x32 (runFirst.sl.r_1 c arg11 f11) shapeCasts_S64x32_S64x32 (ix2 i j)
      = (fun a b => p.Wh b a) i.val j.val := fun i j =>
    (congrFun (shapeCast_self _ _) _).trans (wp_block hg i j)
  have hz : ∀ (i : Fin 128) (j : Fin 128), (k0_pay14 (F := Ideal)) (ix2 i j) = (fun _ _ => 0) i.val j.val := fun i j => by
    unfold k0_pay14
    rw [shapeCast_self]
    exact Ideal.ofBits_zero_f32
  refine (read_over (inb := by decide) (G := fun a b => p.Wh b a) hb (read_over (inb := by decide) (G := fun a b => p.Wh b a) hb (read_over (inb := by decide) (L := []) (G := fun _ _ => 0) hz rfl))).trans ?_
  split_ifs <;> first | rfl | omega | (congr 1 <;> omega)

/-- The own embeddings' weights. -/
theorem wc_written {arg20 : Memref sig .tc .vmem S128x128 .f32} (g : Bf Ideal c arg20) (k : Fin 128) (l : Fin 128) :
    arg20.view.read (Elt Ideal) (arg20.view.writes (Elt Ideal) g (runFirst.sl.H20_5 c arg11 f11)) (ix2 k l)
      = if k.val / 32 = l.val / 32 then p.Wh (l.val % 32) (64 + k.val % 32) else 0 := by
  have hk := k.isLt
  have hl := l.isLt
  have hb : ∀ (i : Fin 32) (j : Fin 32), shapeCast S32x32 (runFirst.sl.r_2 c arg11 f11) shapeCasts_S32x32_S32x32 (ix2 i j)
      = (fun a b => p.Wh b (64 + a)) i.val j.val := fun i j =>
    (congrFun (shapeCast_self _ _) _).trans (wc_block hg i j)
  have hz : ∀ (i : Fin 128) (j : Fin 128), (k0_pay15 (F := Ideal)) (ix2 i j) = (fun _ _ => 0) i.val j.val := fun i j => by
    unfold k0_pay15
    rw [shapeCast_self]
    exact Ideal.ofBits_zero_f32
  refine (read_over (inb := by decide) (G := fun a b => p.Wh b (64 + a)) hb (read_over (inb := by decide) (G := fun a b => p.Wh b (64 + a)) hb (read_over (inb := by decide) (G := fun a b => p.Wh b (64 + a)) hb (read_over (inb := by decide) (G := fun a b => p.Wh b (64 + a)) hb
    (read_over (inb := by decide) (L := []) (G := fun _ _ => 0) hz rfl))))).trans ?_
  split_ifs <;> first | rfl | omega | (congr 1 <;> omega)

/-- The contents bias, four times. -/
theorem bu_written {arg21 : Memref sig .tc .vmem S1x128 .f32} (g : Bf Ideal c arg21) (l : Fin 128) :
    arg21.view.read (Elt Ideal) (arg21.view.writes (Elt Ideal) g (runFirst.sl.H21_4 c arg10 f10)) (ix2 (0 : Fin 1) l) = p.bu (l.val % 32) := by
  have hl := l.isLt
  have hr : ∀ (i : Fin 1) (j : Fin 32), (arg10.view.readAt (Elt Ideal) (Rect.unit ![0, 0] S1x32.size inb_S1x32_S1x32_0_0).toLoadRect f10) (ix2 i j)
      = (fun _ b => p.bu b) i.val j.val := fun i j => by
    rw [Subsingleton.elim i 0]
    exact (congrFun (readAt_whole arg10.view f10 inb_S1x32_S1x32_0_0) _).trans (hg.bu j)
  have hb : ∀ (i : Fin 1) (j : Fin 32), runFirst.sl.v57 c arg10 f10 (ix2 i j) = (fun _ b => p.bu b) i.val j.val := fun i j =>
    (congrFun ((shapeCast_self _ _).trans (shapeCast_self _ _)) _).trans (hr i j)
  refine (read_over (inb := by decide) (G := fun _ b => p.bu b) hb (read_over (inb := by decide) (G := fun _ b => p.bu b) hb (read_over (inb := by decide) (G := fun _ b => p.bu b) hb
    (read_over (inb := by decide) (L := []) (G := fun _ b => p.bu b) hb rfl)))).trans ?_
  show (if 0 ≤ 0 ∧ 0 < 0 + 1 ∧ _ then _ else _) = _
  split_ifs <;> first | omega | (congr 1 <;> omega)

/-- The tree bias, four times. -/
theorem bh_written {arg22 : Memref sig .tc .vmem S1x128 .f32} (g : Bf Ideal c arg22) (l : Fin 128) :
    arg22.view.read (Elt Ideal) (arg22.view.writes (Elt Ideal) g (runFirst.sl.H22_4 c arg12 f12)) (ix2 (0 : Fin 1) l) = p.bh (l.val % 32) := by
  have hl := l.isLt
  have hr : ∀ (i : Fin 1) (j : Fin 32), (arg12.view.readAt (Elt Ideal) (Rect.unit ![0, 0] S1x32.size inb_S1x32_S1x32_0_0).toLoadRect f12) (ix2 i j)
      = (fun _ b => p.bh b) i.val j.val := fun i j => by
    rw [Subsingleton.elim i 0]
    exact (congrFun (readAt_whole arg12.view f12 inb_S1x32_S1x32_0_0) _).trans (hg.bh j)
  have hb : ∀ (i : Fin 1) (j : Fin 32), runFirst.sl.v46 c arg12 f12 (ix2 i j) = (fun _ b => p.bh b) i.val j.val := fun i j =>
    (congrFun ((shapeCast_self _ _).trans (shapeCast_self _ _)) _).trans (hr i j)
  refine (read_over (inb := by decide) (G := fun _ b => p.bh b) hb (read_over (inb := by decide) (G := fun _ b => p.bh b) hb (read_over (inb := by decide) (G := fun _ b => p.bh b) hb
    (read_over (inb := by decide) (L := []) (G := fun _ b => p.bh b) hb rfl)))).trans ?_
  show (if 0 ≤ 0 ∧ 0 < 0 + 1 ∧ _ then _ else _) = _
  split_ifs <;> first | omega | (congr 1 <;> omega)

/-- So the weight buffers hold the tree weights. -/
theorem tree_weights_written {arg18 arg19 arg20 : Memref sig .tc .vmem S128x128 .f32} {arg22 : Memref sig .tc .vmem S1x128 .f32} (g18 : Bf Ideal c arg18)
    (g19 : Bf Ideal c arg19) (g20 : Bf Ideal c arg20) (g22 : Bf Ideal c arg22) :
    TreeWeights p (arg18.view.read (Elt Ideal) (arg18.view.writes (Elt Ideal) g18 (runFirst.sl.H18_3 c arg11 f11)))
      (arg19.view.read (Elt Ideal) (arg19.view.writes (Elt Ideal) g19 (runFirst.sl.H19_3 c arg11 f11)))
      (arg20.view.read (Elt Ideal) (arg20.view.writes (Elt Ideal) g20 (runFirst.sl.H20_5 c arg11 f11)))
      (arg22.view.read (Elt Ideal) (arg22.view.writes (Elt Ideal) g22 (runFirst.sl.H22_4 c arg12 f12))) :=
  ⟨lo_written hg g18, hi_written hg g19, wc_written hg g20, bh_written hg g22⟩

/-- And the leaf weights. -/
theorem leaf_weights_written {arg17 : Memref sig .tc .vmem S256x128 .f32} {arg21 : Memref sig .tc .vmem S1x128 .f32} (g17 : Bf Ideal c arg17)
    (g21 : Bf Ideal c arg21) :
    LeafWeights p (arg17.view.read (Elt Ideal) (arg17.view.writes (Elt Ideal) g17 (runFirst.sl.H17_5 c arg9 f9)))
      (arg21.view.read (Elt Ideal) (arg21.view.writes (Elt Ideal) g21 (runFirst.sl.H21_4 c arg10 f10))) :=
  ⟨wu_written hg g17, bu_written hg g21⟩

end Weights

variable {c : Dev nD} {arg1 arg2 arg3 arg4 arg5 arg6 arg7 arg8 : Memref sig .tc .vmem S2048x64 .f32} {arg14 : Memref sig .tc .vmem S32768x128 .f32}
    {p : Net} {f1 : Bf Ideal c arg1} {f2 : Bf Ideal c arg2} {f3 : Bf Ideal c arg3} {f4 : Bf Ideal c arg4} {f5 : Bf Ideal c arg5} {f6 : Bf Ideal c arg6}
    {f7 : Bf Ideal c arg7} {f8 : Bf Ideal c arg8} {f14 : Bf Ideal c arg14}

/-- The leaf rows of the first grid point. -/
theorem first_result (t : Fin cfg0.N) (ht : t.val = 0) {harg1 : arg1.IsWhole} {harg2 : arg2.IsWhole} {harg3 : arg3.IsWhole} {harg4 : arg4.IsWhole}
    {harg5 : arg5.IsWhole} {harg6 : arg6.IsWhole} {harg7 : arg7.IsWhole} {harg8 : arg8.IsWhole} {arg9 : Memref sig .tc .vmem S32x64 .f32}
    {harg9 : arg9.IsWhole} {arg10 : Memref sig .tc .vmem S1x32 .f32} {harg10 : arg10.IsWhole} {arg11 : Memref sig .tc .vmem S32x96 .f32}
    {harg11 : arg11.IsWhole} {arg12 : Memref sig .tc .vmem S1x32 .f32} {harg12 : arg12.IsWhole} {arg13 : Memref sig .tc .vmem S16x32 .f32}
    {harg13 : arg13.IsWhole} {arg15 : Memref sig .tc .vmem S8192x128 .f32} {harg15 : arg15.IsWhole} {arg16 : Memref sig .tc .vmem S4096x128 .f32}
    {harg16 : arg16.IsWhole} {arg17 : Memref sig .tc .vmem S256x128 .f32} {arg18 arg19 arg20 : Memref sig .tc .vmem S128x128 .f32} {harg18 : arg18.IsWhole}
    {harg19 : arg19.IsWhole} {harg20 : arg20.IsWhole} {arg21 arg22 : Memref sig .tc .vmem S1x128 .f32} {harg22 : arg22.IsWhole} {harg14 : arg14.IsWhole}
    {harg17 : arg17.IsWhole} {harg21 : arg21.IsWhole}
    {hc1 : AtFirst (grid0.coords t)} {hc2 : k0_cond2 (grid0.coords t) = 1#1} {hc3 : ¬ k0_cond3 (grid0.coords t) = 1#1}
    {f9 : Bf Ideal c arg9} {f10 : Bf Ideal c arg10} {f11 : Bf Ideal c arg11} {f12 : Bf Ideal c arg12} (hg : Given p f9 f10 f11 f12)
    (b1 : Block p (4096 * t.val) arg1 f1) (b2 : Block p (4096 * t.val + 512) arg2 f2) (b3 : Block p (4096 * t.val + 1024) arg3 f3)
    (b4 : Block p (4096 * t.val + 1536) arg4 f4) (b5 : Block p (4096 * t.val + 2048) arg5 f5) (b6 : Block p (4096 * t.val + 2560) arg6 f6)
    (b7 : Block p (4096 * t.val + 3072) arg7 f7) (b8 : Block p (4096 * t.val + 3584) arg8 f8) :
    Holds (N := 32768) (W := 128) arg14.view (arg14.view.writes (Elt Ideal) f14 (runFirst c (grid0.coords t) arg1 harg1 arg2 harg2 arg3 harg3 arg4 harg4
      arg5 harg5 arg6 harg6 arg7 harg7 arg8 harg8 arg9 harg9 arg10 harg10 arg11 harg11 arg12 harg12 arg13 harg13 arg14 harg14 arg15 harg15 arg16 harg16
      arg17 harg17 arg18 harg18 arg19 harg19 arg20 harg20 arg21 harg21 arg22 harg22 hc1 hc2 hc3 f1 f2 f3 f4 f5 f6 f7 f8 f9 f10 f11 f12).val.1)
      (pack p.own) (min (4096 * (t.val + 1)) 32764) := by
  have hw : LeafWeights p (runFirst.sl.v14 c arg9 arg17 f9) (runFirst.sl.v16 c arg10 arg21 f10) := by
    have h1 : runFirst.sl.v14 c arg9 arg17 f9 = arg17.view.read (Elt Ideal) (arg17.view.writes (Elt Ideal) arg17.view.junk (runFirst.sl.H17_5 c arg9 f9)) :=
      readAt_whole arg17.view _ inb_S256x128_S256x128_0_0
    have h2 : runFirst.sl.v16 c arg10 arg21 f10 = arg21.view.read (Elt Ideal) (arg21.view.writes (Elt Ideal) arg21.view.junk (runFirst.sl.H21_4 c arg10 f10)) :=
      readAt_whole arg21.view _ inb_S1x128_S1x128_0_0
    exact h1.symm ▸ h2.symm ▸ leaf_weights_written hg (arg17 := arg17) (arg21 := arg21) _ _
  refine leaf_rows t (fun y hy => absurd hy (by omega)) (leaf_stored hw b1 rfl) (leaf_stored hw b2 rfl) (leaf_stored hw b3 rfl) (leaf_stored hw b4 rfl)
    (leaf_stored hw b5 rfl) (leaf_stored hw b6 rfl) (leaf_stored hw b7 rfl) (leaf_stored hw b8 rfl)

end Cert.KernelIdeal.Body

end
-- ==== Proof.Blocks.lean ====
/-
  The network an argument list spells, and what each window's buffer holds of it at a grid point.
-/
module

public import proofs.«01_k».proof.Proof.FirstValue
public import proofs.«01_k».proof.Proof.Launch

@[expose] public section

set_option maxRecDepth 65536

noncomputable section

namespace Cert.Spec

open Idealize.ShloMosaic hiding ix0 ix1 ix2 ix3 ix4 ix5
open Idealize.ShloMosaic.ValueIdx

/-- An array of rank 2 as a function of numbers, zero outside. -/
def on2 {a b : ℕ} (x : Mat a b) (n k : ℕ) : EReal := if h : n < a ∧ k < b then x (ix2 (⟨n, h.1⟩ : Fin a) (⟨k, h.2⟩ : Fin b)) else 0

/-- An array of rank 1 as a function of a number, zero outside. -/
def on1 {a : ℕ} (x : FVec Ideal ⟨1, ![a]⟩ .f32) (n : ℕ) : EReal := if h : n < a then x (ix1 (⟨n, h⟩ : Fin a)) else 0

theorem on2_apply {a b : ℕ} (x : Mat a b) (y : (⟨2, ![a, b]⟩ : Shape).Idx) {n k : ℕ} (h0 : (y 0).val = n) (h1 : (y 1).val = k) :
    x y = on2 x n k := by
  subst h0 h1
  unfold on2
  rw [dif_pos ⟨(y 0).isLt, (y 1).isLt⟩]
  exact congrArg x (funext (Fin.forall_fin_two.mpr ⟨rfl, rfl⟩))

theorem on1_apply {a : ℕ} (x : FVec Ideal ⟨1, ![a]⟩ .f32) (y : (⟨1, ![a]⟩ : Shape).Idx) {n : ℕ} (h0 : (y 0).val = n) : x y = on1 x n := by
  subst h0
  unfold on1
  rw [dif_pos (show (y 0).val < a from (y 0).isLt)]
  exact congrArg x (funext fun a => by match a with | ⟨0, _⟩ => rfl)

/-- The network with the contents and weights given as arrays. -/
def netOf (C : Mat 131056 64) (Wu : Mat 32 64) (bu : FVec Ideal ⟨1, ![32]⟩ .f32) (Wh : Mat 32 96) (bh : FVec Ideal ⟨1, ![32]⟩ .f32) : Net :=
  { C := on2 C, Wu := on2 Wu, bu := on1 bu, Wh := on2 Wh, bh := on1 bh }

section Clip

variable {sig : RefSig} {G : Pipeline.Grid} {Val : EltTy → Type}

/-- A block of 2048 rows fetched over a buffer, at a row inside the array: it is the array's row. -/
theorem clip_block (arr : Memref sig .tc .hbm ⟨2, ![131056, 64]⟩ .f32) (ix : G.Coords → Fin 2 → Nat) (reads : Fin G.rank → Bool) (nbuf : Nat)
    (stage : Fin nbuf → Memref sig .tc (.core .vmem) ⟨2, ![2048, 64]⟩ .f32) (sem : Fin nbuf → DmaSem sig) (h1 h2 h3 h4 h5 h6 h7 h8) (t : Fin G.N) (b : ℕ)
    (hb : ix (G.coords t) = ![b, 0]) (d) (X : arr.view.ty.Contents Val) (y : (⟨2, ![2048, 64]⟩ : Shape).Idx) (hy : 2048 * b + (y 0).val < 131056) :
    (Pipeline.Window.ofSpecClip (G := G) arr ![2048, 64] ix reads false false nbuf stage sem h1 h2 h3 h4 h5 h6 h7 h8).fill (G.coords t) d
      (((Pipeline.Window.ofSpecClip (G := G) arr ![2048, 64] ix reads false false nbuf stage sem h1 h2 h3 h4 h5 h6 h7 h8).blk t).view.read Val X) y
      = arr.view.read Val X (ix2 (⟨2048 * b + (y 0).val, hy⟩ : Fin 131056) (y 1)) := by
  have hm : (Pipeline.Window.ofSpecClip (G := G) arr ![2048, 64] ix reads false false nbuf stage sem h1 h2 h3 h4 h5 h6 h7 h8).moved (G.coords t) y = true := by
    refine (Pipeline.Window.moved_iff _ _ _).mpr (Fin.forall_fin_two.mpr ⟨?_, ?_⟩)
    · show (y 0).val < (Pipeline.Clip.of (ix (G.coords t) 0) 2048 131056).extent 2048
      rw [hb]
      unfold Pipeline.Clip.of
      have h := (y 0).isLt
      change (y 0).val < 2048 at h
      split
      · exact h
      · show (y 0).val < 131056 - b * 2048
        omega
    · show (y 1).val < (Pipeline.Clip.of (ix (G.coords t) 1) 64 64).extent 64
      rw [hb]
      exact (y 1).isLt
  unfold Pipeline.Window.fill
  rw [dif_pos hm]
  refine congrArg (arr.view.read Val X) (funext (Fin.forall_fin_two.mpr ⟨Fin.ext ?_, Fin.ext ?_⟩))
  · show ix (G.coords t) 0 * 2048 + 1 * (y 0).val = 2048 * b + (y 0).val
    rw [hb]
    show b * 2048 + 1 * (y 0).val = _
    omega
  · show ix (G.coords t) 1 * 64 + 1 * (y 1).val = (y 1).val
    rw [hb]
    show 0 * 64 + 1 * (y 1).val = _
    omega

end Clip

end Cert.Spec

namespace Cert.KernelIdeal.Body

open Cert.KernelIdeal Cert.KernelIdeal.Gen Cert.Spec
open Idealize.ShloMosaic hiding ix0 ix1 ix2 ix3 ix4 ix5
open Idealize.ShloMosaic.ValueIdx Idealize.ShloMosaic.TcCoe

variable (m : (ℓ : Loc nD τ sig) → Buf (Elt Ideal) ℓ) (c : Dev nD)

/-- The network core `c`'s arguments spell. -/
def net : Net :=
  netOf (m ((c : Thread nD τ).loc main_arg0)) (m ((c : Thread nD τ).loc main_arg2)) (m ((c : Thread nD τ).loc main_arg3))
    (m ((c : Thread nD τ).loc main_arg4)) (m ((c : Thread nD τ).loc main_arg5))

/-- The contents windows' block indices. -/
theorem index_at (t : Fin cfg0.N) (h8 : t.val < 8) :
    cc0_transform_0 (grid0.coords t) = ![8 * t.val, 0] ∧ cc0_transform_1 (grid0.coords t) = ![8 * t.val + 1, 0]
    ∧ cc0_transform_2 (grid0.coords t) = ![8 * t.val + 2, 0] ∧ cc0_transform_3 (grid0.coords t) = ![8 * t.val + 3, 0]
    ∧ cc0_transform_4 (grid0.coords t) = ![8 * t.val + 4, 0] ∧ cc0_transform_5 (grid0.coords t) = ![8 * t.val + 5, 0]
    ∧ cc0_transform_6 (grid0.coords t) = ![8 * t.val + 6, 0] ∧ cc0_transform_7 (grid0.coords t) = ![8 * t.val + 7, 0] := by
  revert h8
  rcases fin_N0 t with rfl | rfl | rfl | rfl | rfl | rfl | rfl | rfl | rfl <;> decide

/-- A staging buffer that reads as a fetched block of contents holds the network's. -/
theorem block_of {arg : Memref sig .tc .vmem S2048x64 .f32} {f : Bf Ideal c arg} {q b : ℕ} {X : S2048x64.Idx → EReal} (hr : arg.view.read (Elt Ideal) f = X)
    (hX : ∀ (y : S2048x64.Idx) (hy : 2048 * b + (y 0).val < 131056),
      X y = V m c main_arg0 (ix2 (⟨2048 * b + (y 0).val, hy⟩ : Fin 131056) (y 1))) (hq : 4 * q = 2048 * b) :
    Block (net m c) q arg f := by
  intro y hy
  refine (congrFun hr y).trans ((hX y (by omega)).trans ?_)
  rw [V_main_arg0]
  exact on2_apply _ _ (show 2048 * b + (y 0).val = 4 * q + (y 0).val by omega) rfl

/-! The eight blocks. Only the last one's fetch can leave rows of what its buffer held before: those past the array. -/

theorem block0 (t : Fin cfg0.N) (h8 : t.val < 8) (y : S2048x64.Idx) (hy : 2048 * (8 * t.val) + (y 0).val < 131056) :
    X0_0 m c t y = V m c main_arg0 (ix2 (⟨2048 * (8 * t.val) + (y 0).val, hy⟩ : Fin 131056) (y 1)) :=
  clip_block (Memref.whole main_arg0) cc0_transform_0 reads0_0 2 stage0_0 sem0_0 hrank0 hreads0_0 hstart0_0 nbuf0_0 (Memref.isWhole_whole _) hwx0_0
    hwxs0_0 hstage0_0 t _ (index_at t h8).1 _ _ y hy

theorem block1 (t : Fin cfg0.N) (h8 : t.val < 8) (y : S2048x64.Idx) (hy : 2048 * (8 * t.val + 1) + (y 0).val < 131056) :
    X0_1 m c t y = V m c main_arg0 (ix2 (⟨2048 * (8 * t.val + 1) + (y 0).val, hy⟩ : Fin 131056) (y 1)) :=
  clip_block (Memref.whole main_arg0) cc0_transform_1 reads0_1 2 stage0_1 sem0_1 hrank0 hreads0_1 hstart0_1 nbuf0_1 (Memref.isWhole_whole _) hwx0_1
    hwxs0_1 hstage0_1 t _ (index_at t h8).2.1 _ _ y hy

theorem block2 (t : Fin cfg0.N) (h8 : t.val < 8) (y : S2048x64.Idx) (hy : 2048 * (8 * t.val + 2) + (y 0).val < 131056) :
    X0_2 m c t y = V m c main_arg0 (ix2 (⟨2048 * (8 * t.val + 2) + (y 0).val, hy⟩ : Fin 131056) (y 1)) :=
  clip_block (Memref.whole main_arg0) cc0_transform_2 reads0_2 2 stage0_2 sem0_2 hrank0 hreads0_2 hstart0_2 nbuf0_2 (Memref.isWhole_whole _) hwx0_2
    hwxs0_2 hstage0_2 t _ (index_at t h8).2.2.1 _ _ y hy

theorem block3 (t : Fin cfg0.N) (h8 : t.val < 8) (y : S2048x64.Idx) (hy : 2048 * (8 * t.val + 3) + (y 0).val < 131056) :
    X0_3 m c t y = V m c main_arg0 (ix2 (⟨2048 * (8 * t.val + 3) + (y 0).val, hy⟩ : Fin 131056) (y 1)) :=
  clip_block (Memref.whole main_arg0) cc0_transform_3 reads0_3 2 stage0_3 sem0_3 hrank0 hreads0_3 hstart0_3 nbuf0_3 (Memref.isWhole_whole _) hwx0_3
    hwxs0_3 hstage0_3 t _ (index_at t h8).2.2.2.1 _ _ y hy

theorem block4 (t : Fin cfg0.N) (h8 : t.val < 8) (y : S2048x64.Idx) (hy : 2048 * (8 * t.val + 4) + (y 0).val < 131056) :
    X0_4 m c t y = V m c main_arg0 (ix2 (⟨2048 * (8 * t.val + 4) + (y 0).val, hy⟩ : Fin 131056) (y 1)) :=
  clip_block (Memref.whole main_arg0) cc0_transform_4 reads0_4 2 stage0_4 sem0_4 hrank0 hreads0_4 hstart0_4 nbuf0_4 (Memref.isWhole_whole _) hwx0_4
    hwxs0_4 hstage0_4 t _ (index_at t h8).2.2.2.2.1 _ _ y hy

theorem block5 (t : Fin cfg0.N) (h8 : t.val < 8) (y : S2048x64.Idx) (hy : 2048 * (8 * t.val + 5) + (y 0).val < 131056) :
    X0_5 m c t y = V m c main_arg0 (ix2 (⟨2048 * (8 * t.val + 5) + (y 0).val, hy⟩ : Fin 131056) (y 1)) :=
  clip_block (Memref.whole main_arg0) cc0_transform_5 reads0_5 2 stage0_5 sem0_5 hrank0 hreads0_5 hstart0_5 nbuf0_5 (Memref.isWhole_whole _) hwx0_5
    hwxs0_5 hstage0_5 t _ (index_at t h8).2.2.2.2.2.1 _ _ y hy

theorem block6 (t : Fin cfg0.N) (h8 : t.val < 8) (y : S2048x64.Idx) (hy : 2048 * (8 * t.val + 6) + (y 0).val < 131056) :
    X0_6 m c t y = V m c main_arg0 (ix2 (⟨2048 * (8 * t.val + 6) + (y 0).val, hy⟩ : Fin 131056) (y 1)) :=
  clip_block (Memref.whole main_arg0) cc0_transform_6 reads0_6 2 stage0_6 sem0_6 hrank0 hreads0_6 hstart0_6 nbuf0_6 (Memref.isWhole_whole _) hwx0_6
    hwxs0_6 hstage0_6 t _ (index_at t h8).2.2.2.2.2.2.1 _ _ y hy

theorem block7 (t : Fin cfg0.N) (h8 : t.val < 8) (d : (cfg0.win 7).block.Idx → EReal) (y : S2048x64.Idx) (hy : 2048 * (8 * t.val + 7) + (y 0).val < 131056) :
    win7At m c t d y = V m c main_arg0 (ix2 (⟨2048 * (8 * t.val + 7) + (y 0).val, hy⟩ : Fin 131056) (y 1)) :=
  clip_block (Memref.whole main_arg0) cc0_transform_7 reads0_7 2 stage0_7 sem0_7 hrank0 hreads0_7 hstart0_7 nbuf0_7 (Memref.isWhole_whole _) hwx0_7
    hwxs0_7 hstage0_7 t _ (index_at t h8).2.2.2.2.2.2.2 _ _ y hy

/-! The four weight windows: each block is its whole array. -/

theorem idx8 : ∀ t : Fin cfg0.N, win0_8.index t = ![0, 0] ∧ win0_9.index t = ![0, 0] ∧ win0_10.index t = ![0, 0] ∧ win0_11.index t = ![0, 0] :=
  (by decide +kernel : ∀ t : Fin grid0.N, _)

theorem w8 (t : Fin cfg0.N) (h : Fin 32) (x : Fin 64) : iblk m c 8 t (ix2 h x) = (net m c).Wu h.val x.val := by
  refine Eq.trans ?_ (on2_apply (m ((c : Thread nD τ).loc main_arg2)) (ix2 h x) rfl rfl)
  blk_ext [iblk, V, idx8 t]

theorem w9 (t : Fin cfg0.N) (h : Fin 32) : iblk m c 9 t (ix2 (0 : Fin 1) h) = (net m c).bu h.val := by
  refine Eq.trans ?_ (on1_apply (m ((c : Thread nD τ).loc main_arg3)) (ix1 h) rfl)
  blk_simp [iblk, idx8 t]
  entry_read
  pointwise
  blk_ext [idx8 t]

theorem w10 (t : Fin cfg0.N) (h : Fin 32) (x : Fin 96) : iblk m c 10 t (ix2 h x) = (net m c).Wh h.val x.val := by
  refine Eq.trans ?_ (on2_apply (m ((c : Thread nD τ).loc main_arg4)) (ix2 h x) rfl rfl)
  blk_ext [iblk, V, idx8 t]

theorem w11 (t : Fin cfg0.N) (h : Fin 32) : iblk m c 11 t (ix2 (0 : Fin 1) h) = (net m c).bh h.val := by
  refine Eq.trans ?_ (on1_apply (m ((c : Thread nD τ).loc main_arg5)) (ix1 h) rfl)
  blk_simp [iblk, idx8 t]
  entry_read
  pointwise
  blk_ext [idx8 t]

end Cert.KernelIdeal.Body

end
-- ==== Proof.TreeValue.lean ====
/-
  What the last point's run stores: level by level, from the level above the leaves to the roots, the stores found by the run hold the
  embeddings of that level's nodes, four to a row.
-/
module

public import proofs.«01_k».proof.Proof.Chunk
public import proofs.«01_k».proof.Proof.Rows
public import proofs.«01_k».proof.Proof.RunTree

@[expose] public section

set_option maxRecDepth 16384

noncomputable section

namespace Cert.Spec

open Idealize.ShloMosaic hiding ix0 ix1 ix2 ix3 ix4 ix5
open Idealize.ShloMosaic.ValueIdx

/-- The rows of the level that starts at row `Q`, its nodes having `d` levels below them. -/
def level (p : Net) (d Q m l : ℕ) : EReal := pack (p.emb d) (Q + m) l

section Step

variable {sig : RefSig} {κ κ' : Kind} {sp sp' : Space} {N M : ℕ} {v : View sig κ sp ⟨2, ![N, 128]⟩ .f32} {vu : View sig κ' sp' ⟨2, ![M, 128]⟩ .f32}
  {f : v.ty.Contents (Elt Ideal)} {fu : vu.ty.Contents (Elt Ideal)}

/-- One chunk of a level, its children's rows read from a buffer that holds `g`, the level below starting at row `B` of it: rows
    `m` to `m + n` of the level that starts at row `Q`. -/
theorem chunk_of (p : Net) (d Q m B : ℕ) {n q qu b b' u : ℕ} {g : ℕ → ℕ → EReal} {hb : (⟨2, ![1, 128]⟩ : Shape).Broadcasts ⟨2, ![n, 128]⟩}
    {lo hi wc : Mat 128 128} {bh : Mat 1 128} (hw : TreeWeights p lo hi wc bh) (hown : Holds vu fu (pack p.own) qu) (hprev : Holds v f g q)
    (hg : ∀ x l, g (B + x) l = pack (p.emb d) (2 * Q + 4 + x) l)
    {inb : ∀ a : Fin 2, (![n, 128] : Fin 2 → ℕ) a = 0 ∨ (![b, 0] : Fin 2 → ℕ) a + (![2, 1] : Fin 2 → ℕ) a * ((![n, 128] : Fin 2 → ℕ) a - 1) < (![N, 128] : Fin 2 → ℕ) a}
    {inb' : ∀ a : Fin 2, (![n, 128] : Fin 2 → ℕ) a = 0 ∨ (![b', 0] : Fin 2 → ℕ) a + (![2, 1] : Fin 2 → ℕ) a * ((![n, 128] : Fin 2 → ℕ) a - 1) < (![N, 128] : Fin 2 → ℕ) a}
    {inbu : ∀ a : Fin 2, (![u, 0] : Fin 2 → ℕ) a + (![n, 128] : Fin 2 → ℕ) a ≤ (![M, 128] : Fin 2 → ℕ) a}
    (hn : B + 2 * m = b ∧ B + 2 * m + 1 = b' ∧ Q + m = u ∧ b + 2 * n < q + 2 ∧ b' + 2 * n < q + 2 ∧ u + n ≤ qu) (r : Fin n) (l : Fin 128) :
    chunkTerm hb lo hi wc bh (v.readAt (Elt Ideal) (⟨![b, 0], ![n, 128], ![2, 1], inb⟩ : LoadRect ⟨2, ![N, 128]⟩) f)
      (v.readAt (Elt Ideal) (⟨![b', 0], ![n, 128], ![2, 1], inb'⟩ : LoadRect ⟨2, ![N, 128]⟩) f)
      (vu.readAt (Elt Ideal) (Rect.unit (s := ⟨2, ![M, 128]⟩) ![u, 0] ![n, 128] inbu).toLoadRect fu) (ix2 r l) = level p (d + 1) Q (m + r.val) l.val := by
  obtain ⟨rfl, rfl, rfl, h1, h2, h3⟩ := hn
  refine (chunk_value p hb hw d (Q + m) (fun r l => ?_) (fun r l => ?_) (fun r l => hown.rows h3 r l) r l).trans
    (congrArg (pack _ · _) (Nat.add_assoc _ _ _))
  · rw [hprev.strided h1 r l, Nat.add_assoc, hg]
    exact congrArg (pack _ · _) (by omega)
  · rw [hprev.strided h2 r l, Nat.add_assoc, Nat.add_assoc, hg]
    exact congrArg (pack _ · _) (by omega)

/-- The stored form: the chunk's term cast to its own shape. -/
theorem stored_of (p : Net) (d Q m B : ℕ) {n q qu b b' u : ℕ} {g : ℕ → ℕ → EReal} {hb : (⟨2, ![1, 128]⟩ : Shape).Broadcasts ⟨2, ![n, 128]⟩}
    {lo hi wc : Mat 128 128} {bh : Mat 1 128} {P : Mat n 128} (hw : TreeWeights p lo hi wc bh) (hown : Holds vu fu (pack p.own) qu) (hprev : Holds v f g q)
    (hg : ∀ x l, g (B + x) l = pack (p.emb d) (2 * Q + 4 + x) l)
    {inb : ∀ a : Fin 2, (![n, 128] : Fin 2 → ℕ) a = 0 ∨ (![b, 0] : Fin 2 → ℕ) a + (![2, 1] : Fin 2 → ℕ) a * ((![n, 128] : Fin 2 → ℕ) a - 1) < (![N, 128] : Fin 2 → ℕ) a}
    {inb' : ∀ a : Fin 2, (![n, 128] : Fin 2 → ℕ) a = 0 ∨ (![b', 0] : Fin 2 → ℕ) a + (![2, 1] : Fin 2 → ℕ) a * ((![n, 128] : Fin 2 → ℕ) a - 1) < (![N, 128] : Fin 2 → ℕ) a}
    {inbu : ∀ a : Fin 2, (![u, 0] : Fin 2 → ℕ) a + (![n, 128] : Fin 2 → ℕ) a ≤ (![M, 128] : Fin 2 → ℕ) a}
    {hs : (⟨2, ![n, 128]⟩ : Shape).ShapeCasts ⟨2, ![n, 128]⟩}
    (hP : P = shapeCast ⟨2, ![n, 128]⟩ (chunkTerm hb lo hi wc bh (v.readAt (Elt Ideal) (⟨![b, 0], ![n, 128], ![2, 1], inb⟩ : LoadRect ⟨2, ![N, 128]⟩) f)
      (v.readAt (Elt Ideal) (⟨![b', 0], ![n, 128], ![2, 1], inb'⟩ : LoadRect ⟨2, ![N, 128]⟩) f)
      (vu.readAt (Elt Ideal) (Rect.unit (s := ⟨2, ![M, 128]⟩) ![u, 0] ![n, 128] inbu).toLoadRect fu)) hs)
    (hn : B + 2 * m = b ∧ B + 2 * m + 1 = b' ∧ Q + m = u ∧ b + 2 * n < q + 2 ∧ b' + 2 * n < q + 2 ∧ u + n ≤ qu) (r : Fin n) (l : Fin 128) :
    P (ix2 r l) = level p (d + 1) Q (m + r.val) l.val := by
  rw [hP, shapeCast_self]
  exact chunk_of p d Q m B hw hown hprev hg hn r l

end Step

/-- One quarter of the lanes of the roots' four rows, read as rows of 32. -/
theorem quarter_apply {G : ℕ → ℕ → EReal} {T : Mat 4 128} (hT : ∀ (r : Fin 4) (l : Fin 128), T (ix2 r l) = pack G r.val l.val) (k : Fin 4) {o : ℕ}
    (ho : o = 32 * k.val) {h : (⟨2, ![4, 128]⟩ : Shape).Slices ![0, o] ⟨2, ![4, 32]⟩} (x : (⟨2, ![4, 32]⟩ : Shape).Idx) :
    extractStridedSlice ⟨2, ![4, 32]⟩ ![0, o] T h x = G (k.val + 4 * (x 0).val) (0 + 1 * (x 1).val) := by
  have h1 : (x 1).val < 32 := (x 1).isLt
  have hk := k.isLt
  rw [Idealize.ShloMosaic.extractStridedSlice_apply ![0, o] T h x (ix2 (⟨(x 0).val, (x 0).isLt⟩ : Fin 4) (⟨o + (x 1).val, by omega⟩ : Fin 128))
    (fun a => by match a with
      | ⟨0, _⟩ => exact (Nat.zero_add _).symm
      | ⟨1, _⟩ => rfl), hT]
  show G (4 * (x 0).val + (o + (x 1).val) / 32) ((o + (x 1).val) % 32) = _
  rw [show 4 * (x 0).val + (o + (x 1).val) / 32 = k.val + 4 * (x 0).val by omega, show (o + (x 1).val) % 32 = 0 + 1 * (x 1).val by omega]

/-- Four stores of such quarters, each to every fourth row, fill the sixteen rows of the result. -/
theorem quarters {sig : RefSig} {κ : Kind} {sp : Space} {v : View sig κ sp ⟨2, ![16, 32]⟩ .f32} {G : ℕ → ℕ → EReal} {T : Mat 4 128}
    (hT : ∀ (r : Fin 4) (l : Fin 128), T (ix2 r l) = pack G r.val l.val)
    {h0 : (⟨2, ![4, 128]⟩ : Shape).Slices ![0, 0] ⟨2, ![4, 32]⟩} {h1 : (⟨2, ![4, 128]⟩ : Shape).Slices ![0, 32] ⟨2, ![4, 32]⟩}
    {h2 : (⟨2, ![4, 128]⟩ : Shape).Slices ![0, 64] ⟨2, ![4, 32]⟩} {h3 : (⟨2, ![4, 128]⟩ : Shape).Slices ![0, 96] ⟨2, ![4, 32]⟩}
    {i : ∀ k : Fin 4, ∀ a : Fin 2, (![4, 32] : Fin 2 → ℕ) a = 0 ∨ (![k.val, 0] : Fin 2 → ℕ) a + (![4, 1] : Fin 2 → ℕ) a * ((![4, 32] : Fin 2 → ℕ) a - 1) < (![16, 32] : Fin 2 → ℕ) a}
    {s : ∀ a : Fin 2, 0 < (![4, 1] : Fin 2 → ℕ) a} (f : v.ty.Contents (Elt Ideal)) (y : (⟨2, ![16, 32]⟩ : Shape).Idx) :
    v.read (Elt Ideal) (v.writes (Elt Ideal) f
      [⟨⟨⟨![3, 0], ![4, 32], ![4, 1], i 3⟩, s⟩, extractStridedSlice ⟨2, ![4, 32]⟩ ![0, 96] T h3⟩,
       ⟨⟨⟨![2, 0], ![4, 32], ![4, 1], i 2⟩, s⟩, extractStridedSlice ⟨2, ![4, 32]⟩ ![0, 64] T h2⟩,
       ⟨⟨⟨![1, 0], ![4, 32], ![4, 1], i 1⟩, s⟩, extractStridedSlice ⟨2, ![4, 32]⟩ ![0, 32] T h1⟩,
       ⟨⟨⟨![0, 0], ![4, 32], ![4, 1], i 0⟩, s⟩, extractStridedSlice ⟨2, ![4, 32]⟩ ![0, 0] T h0⟩]) y = G (y 0).val (y 1).val := by
  refine View.read_writes_apply_of_pieces v f (fun y => G (y 0).val (y 1).val) _ (fun p hp x => ?_) y ?_
  · simp only [List.mem_cons, List.not_mem_nil, or_false] at hp
    rcases hp with rfl | rfl | rfl | rfl
    · exact quarter_apply (o := 96) (h := h3) hT 3 rfl x
    · exact quarter_apply (o := 64) (h := h2) hT 2 rfl x
    · exact quarter_apply (o := 32) (h := h1) hT 1 rfl x
    · exact quarter_apply (o := 0) (h := h0) hT 0 rfl x
  · have hy : (y 0).val < 16 := (y 0).isLt
    have hin : ∀ k : Fin 4, (y 0).val % 4 = k.val → y ∈ (⟨⟨![k.val, 0], ![4, 32], ![4, 1], i k⟩, s⟩ : Rect ⟨2, ![16, 32]⟩).set := fun k hk =>
      LoadRect.mem_set _ |>.mpr (Fin.forall_fin_two.mpr ⟨⟨(y 0).val / 4, show _ < 4 by omega, show (y 0).val = k.val + 4 * ((y 0).val / 4) by omega⟩,
        ⟨(y 1).val, (y 1).isLt, show (y 1).val = 0 + 1 * (y 1).val by omega⟩⟩)
    rcases (show (y 0).val % 4 = 3 ∨ (y 0).val % 4 = 2 ∨ (y 0).val % 4 = 1 ∨ (y 0).val % 4 = 0 by omega) with h | h | h | h
    · exact ⟨_, List.mem_cons_self, hin 3 h⟩
    · exact ⟨_, List.mem_cons_of_mem _ List.mem_cons_self, hin 2 h⟩
    · exact ⟨_, List.mem_cons_of_mem _ (List.mem_cons_of_mem _ List.mem_cons_self), hin 1 h⟩
    · exact ⟨_, List.mem_cons_of_mem _ (List.mem_cons_of_mem _ (List.mem_cons_of_mem _ List.mem_cons_self)), hin 0 h⟩

/-- The level below, read from its own first row. -/
theorem level_below (p : Net) (d Q Q' : ℕ) (h : Q' = 2 * Q + 4) (x l : ℕ) : level p d Q' (0 + x) l = pack (p.emb d) (2 * Q + 4 + x) l := by
  rw [h, Nat.zero_add]; rfl

/-- The leaves' rows, read from the buffer of all of them. -/
theorem leaves_below (p : Net) (Q B : ℕ) (h : B = 2 * Q + 4) (x l : ℕ) : pack p.own (B + x) l = pack (p.emb 0) (2 * Q + 4 + x) l := by
  rw [h]; rfl

end Cert.Spec

namespace Cert.KernelIdeal.Body

open Cert.KernelIdeal Cert.KernelIdeal.Gen Cert.Spec
open Idealize.ShloMosaic hiding ix0 ix1 ix2 ix3 ix4 ix5
open Idealize.ShloMosaic.ValueIdx

section Tree

variable {p : Net} {c : Dev nD} {arg14 : Memref sig .tc .vmem S32768x128 .f32} (arg15 : Memref sig .tc .vmem S8192x128 .f32)
  (arg16 : Memref sig .tc .vmem S4096x128 .f32) {arg18 arg19 arg20 : Memref sig .tc .vmem S128x128 .f32} {arg22 : Memref sig .tc .vmem S1x128 .f32}
  {f14 : Bf Ideal c arg14} {f18 : Bf Ideal c arg18} {f19 : Bf Ideal c arg19} {f20 : Bf Ideal c arg20} {f22 : Bf Ideal c arg22}
  (hw : TreeWeights p (runTree.sl.r c arg18 f18) (runTree.sl.r_1 c arg19 f19) (runTree.sl.r_2 c arg20 f20) (runTree.sl.r_3 c arg22 f22))
  (hu : Holds (N := 32768) (W := 128) arg14.view f14 (pack p.own) 32764)

include hw hu

/-- The level above the leaves, its first rows. -/
theorem tree11a : Filled (N := 8192) (W := 128) arg15.view (runTree.sl.H15_1 c arg14 arg18 arg19 arg20 arg22 f14 f18 f19 f20 f22) (level p 1 8188) 1024 :=
  Filled.step (o := 0) (n := 1024) (Filled.none _ _)
    (stored_of p 0 8188 0 16380 hw hu hu (leaves_below p 8188 16380 rfl) rfl (by decide))

/-- Its rows below 3072. -/
theorem tree11b : Filled (N := 8192) (W := 128) arg15.view (runTree.sl.H15_3 c arg14 arg18 arg19 arg20 arg22 f14 f18 f19 f20 f22) (level p 1 8188) 3072 :=
  Filled.step (o := 2048) (n := 1024) (Filled.step (o := 1024) (n := 1024) (tree11a arg15 hw hu)
    (stored_of p 0 8188 1024 16380 hw hu hu (leaves_below p 8188 16380 rfl) rfl (by decide)))
    (stored_of p 0 8188 2048 16380 hw hu hu (leaves_below p 8188 16380 rfl) rfl (by decide))

/-- Its rows below 6144. -/
theorem tree11c : Filled (N := 8192) (W := 128) arg15.view (runTree.sl.H15_6 c arg14 arg18 arg19 arg20 arg22 f14 f18 f19 f20 f22) (level p 1 8188) 6144 :=
  Filled.step (o := 5120) (n := 1024) (Filled.step (o := 4096) (n := 1024) (Filled.step (o := 3072) (n := 1024) (tree11b arg15 hw hu)
    (stored_of p 0 8188 3072 16380 hw hu hu (leaves_below p 8188 16380 rfl) rfl (by decide)))
    (stored_of p 0 8188 4096 16380 hw hu hu (leaves_below p 8188 16380 rfl) rfl (by decide)))
    (stored_of p 0 8188 5120 16380 hw hu hu (leaves_below p 8188 16380 rfl) rfl (by decide))

/-- All its rows. -/
theorem tree11 : Filled (N := 8192) (W := 128) arg15.view (runTree.sl.H15_8 c arg14 arg18 arg19 arg20 arg22 f14 f18 f19 f20 f22) (level p 1 8188) 8192 :=
  Filled.step (o := 7168) (n := 1024) (Filled.step (o := 6144) (n := 1024) (tree11c arg15 hw hu)
    (stored_of p 0 8188 6144 16380 hw hu hu (leaves_below p 8188 16380 rfl) rfl (by decide)))
    (stored_of p 0 8188 7168 16380 hw hu hu (leaves_below p 8188 16380 rfl) rfl (by decide))

/-- The next level, its first half. -/
theorem tree10a : Filled (N := 4096) (W := 128) arg16.view (runTree.sl.H16_2 c arg14 arg15 arg18 arg19 arg20 arg22 f14 f18 f19 f20 f22) (level p 2 4092) 2048 :=
  Filled.step (o := 1024) (n := 1024) (Filled.step (o := 0) (n := 1024) (Filled.none _ _)
    (stored_of p 1 4092 0 0 hw hu (tree11 arg15 hw hu _) (level_below p 1 4092 8188 rfl) rfl (by decide)))
    (stored_of p 1 4092 1024 0 hw hu (tree11 arg15 hw hu _) (level_below p 1 4092 8188 rfl) rfl (by decide))

/-- All of it. -/
theorem tree10 : Filled (N := 4096) (W := 128) arg16.view (runTree.sl.H16_4 c arg14 arg15 arg18 arg19 arg20 arg22 f14 f18 f19 f20 f22) (level p 2 4092) 4096 :=
  Filled.step (o := 3072) (n := 1024) (Filled.step (o := 2048) (n := 1024) (tree10a arg15 arg16 hw hu)
    (stored_of p 1 4092 2048 0 hw hu (tree11 arg15 hw hu _) (level_below p 1 4092 8188 rfl) rfl (by decide)))
    (stored_of p 1 4092 3072 0 hw hu (tree11 arg15 hw hu _) (level_below p 1 4092 8188 rfl) rfl (by decide))

/-- The level 9 edges below the roots. -/
theorem tree9 : Filled (N := 8192) (W := 128) arg15.view (runTree.sl.H15_10 c arg14 arg15 arg16 arg18 arg19 arg20 arg22 f14 f18 f19 f20 f22) (level p 3 2044) 2048 :=
  Filled.step (o := 1024) (n := 1024) (Filled.step (o := 0) (n := 1024) (Filled.none _ _)
    (stored_of p 2 2044 0 0 hw hu (tree10 arg15 arg16 hw hu _) (level_below p 2 2044 4092 rfl) rfl (by decide)))
    (stored_of p 2 2044 1024 0 hw hu (tree10 arg15 arg16 hw hu _) (level_below p 2 2044 4092 rfl) rfl (by decide))

/-- The level 8 edges below the roots. -/
theorem tree8 : Filled (N := 4096) (W := 128) arg16.view (runTree.sl.H16_5 c arg14 arg15 arg16 arg18 arg19 arg20 arg22 f14 f18 f19 f20 f22) (level p 4 1020) 1024 :=
  Filled.step (o := 0) (n := 1024) (Filled.none _ _)
    (stored_of p 3 1020 0 0 hw hu (tree9 arg15 arg16 hw hu _) (level_below p 3 1020 2044 rfl) rfl (by decide))

/-- The level 7 edges below the roots. -/
theorem tree7 : Filled (N := 8192) (W := 128) arg15.view (runTree.sl.H15_11 c arg14 arg15 arg16 arg18 arg19 arg20 arg22 f14 f18 f19 f20 f22) (level p 5 508) 512 :=
  Filled.step (o := 0) (n := 512) (Filled.none _ _)
    (stored_of p 4 508 0 0 hw hu (tree8 arg15 arg16 hw hu _) (level_below p 4 508 1020 rfl) rfl (by decide))

/-- The level 6 edges below the roots. -/
theorem tree6 : Filled (N := 4096) (W := 128) arg16.view (runTree.sl.H16_6 c arg14 arg15 arg16 arg18 arg19 arg20 arg22 f14 f18 f19 f20 f22) (level p 6 252) 256 :=
  Filled.step (o := 0) (n := 256) (Filled.none _ _)
    (stored_of p 5 252 0 0 hw hu (tree7 arg15 arg16 hw hu _) (level_below p 5 252 508 rfl) rfl (by decide))

/-- The level 5 edges below the roots. -/
theorem tree5 : Filled (N := 8192) (W := 128) arg15.view (runTree.sl.H15_12 c arg14 arg15 arg16 arg18 arg19 arg20 arg22 f14 f18 f19 f20 f22) (level p 7 124) 128 :=
  Filled.step (o := 0) (n := 128) (Filled.none _ _)
    (stored_of p 6 124 0 0 hw hu (tree6 arg15 arg16 hw hu _) (level_below p 6 124 252 rfl) rfl (by decide))

/-- The level 4 edges below the roots. -/
theorem tree4 : Filled (N := 4096) (W := 128) arg16.view (runTree.sl.H16_7 c arg14 arg15 arg16 arg18 arg19 arg20 arg22 f14 f18 f19 f20 f22) (level p 8 60) 64 :=
  Filled.step (o := 0) (n := 64) (Filled.none _ _)
    (stored_of p 7 60 0 0 hw hu (tree5 arg15 arg16 hw hu _) (level_below p 7 60 124 rfl) rfl (by decide))

/-- The level 3 edges below the roots. -/
theorem tree3 : Filled (N := 8192) (W := 128) arg15.view (runTree.sl.H15_13 c arg14 arg15 arg16 arg18 arg19 arg20 arg22 f14 f18 f19 f20 f22) (level p 9 28) 32 :=
  Filled.step (o := 0) (n := 32) (Filled.none _ _)
    (stored_of p 8 28 0 0 hw hu (tree4 arg15 arg16 hw hu _) (level_below p 8 28 60 rfl) rfl (by decide))

/-- The level 2 edges below the roots. -/
theorem tree2 : Filled (N := 4096) (W := 128) arg16.view (runTree.sl.H16_8 c arg14 arg15 arg16 arg18 arg19 arg20 arg22 f14 f18 f19 f20 f22) (level p 10 12) 16 :=
  Filled.step (o := 0) (n := 16) (Filled.none _ _)
    (stored_of p 9 12 0 0 hw hu (tree3 arg15 arg16 hw hu _) (level_below p 9 12 28 rfl) rfl (by decide))

/-- The level 1 edges below the roots. -/
theorem tree1 : Filled (N := 8192) (W := 128) arg15.view (runTree.sl.H15_14 c arg14 arg15 arg16 arg18 arg19 arg20 arg22 f14 f18 f19 f20 f22) (level p 11 4) 8 :=
  Filled.step (o := 0) (n := 8) (Filled.none _ _)
    (stored_of p 10 4 0 0 hw hu (tree2 arg15 arg16 hw hu _) (level_below p 10 4 12 rfl) rfl (by decide))

/-- The roots. -/
theorem tree0 (r : Fin 4) (l : Fin 128) : runTree.sl.r_12 c arg14 arg15 arg16 arg18 arg19 arg20 arg22 f14 f18 f19 f20 f22 (ix2 r l) = pack (p.emb 12) r.val l.val :=
  (chunk_of p 11 0 0 0 (hb := broadcasts_S1x128_S4x128) hw hu (tree1 arg15 arg16 hw hu _) (level_below p 11 0 4 rfl) (by decide) r l).trans
    (congrArg (pack _ · _) (by omega))

omit hw hu in
/-- The result: what the run stores there is the roots' embeddings. -/
theorem tree_result {i : grid0.Coords} {arg1 arg2 arg3 arg4 arg5 arg6 arg7 arg8 : Memref sig .tc .vmem S2048x64 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {arg9 : Memref sig .tc .vmem S32x64 .f32} {harg9 : arg9.IsWhole}
    {arg10 : Memref sig .tc .vmem S1x32 .f32} {harg10 : arg10.IsWhole} {arg11 : Memref sig .tc .vmem S32x96 .f32} {harg11 : arg11.IsWhole}
    {arg12 : Memref sig .tc .vmem S1x32 .f32} {harg12 : arg12.IsWhole} {arg13 : Memref sig .tc .vmem S16x32 .f32} {harg13 : arg13.IsWhole}
    {arg17 : Memref sig .tc .vmem S256x128 .f32} {harg17 : arg17.IsWhole} {arg21 : Memref sig .tc .vmem S1x128 .f32} {harg21 : arg21.IsWhole}
    {harg14 : arg14.IsWhole} {harg15 : arg15.IsWhole} {harg16 : arg16.IsWhole} {harg18 : arg18.IsWhole} {harg19 : arg19.IsWhole}
    {harg20 : arg20.IsWhole} {harg22 : arg22.IsWhole} {hc1 : ¬ AtFirst i} {hc2 : ¬ k0_cond2 i = 1#1} {hc3 : k0_cond3 i = 1#1}
    (hlo : TreeWeights p (arg18.view.read (Elt Ideal) f18) (arg19.view.read (Elt Ideal) f19) (arg20.view.read (Elt Ideal) f20) (arg22.view.read (Elt Ideal) f22))
    (hu : Holds (N := 32768) (W := 128) arg14.view f14 (pack p.own) 32764) (f13 : Bf Ideal c arg13) (y : S16x32.Idx) :
    arg13.view.read (Elt Ideal) (arg13.view.writes (Elt Ideal) f13 (runTree c i arg1 harg1 arg2 harg2 arg3 harg3 arg4 harg4 arg5 harg5 arg6 harg6
      arg7 harg7 arg8 harg8 arg9 harg9 arg10 harg10 arg11 harg11 arg12 harg12 arg13 harg13 arg14 harg14 arg15 harg15 arg16 harg16 arg17 harg17
      arg18 harg18 arg19 harg19 arg20 harg20 arg21 harg21 arg22 harg22 hc1 hc2 hc3 f14 f18 f19 f20 f22).val.1) y = p.emb 12 (y 0).val (y 1).val := by
  have hw : TreeWeights p (runTree.sl.r c arg18 f18) (runTree.sl.r_1 c arg19 f19) (runTree.sl.r_2 c arg20 f20) (runTree.sl.r_3 c arg22 f22) := by
    have h0 : runTree.sl.r c arg18 f18 = arg18.view.read (Elt Ideal) f18 := readAt_whole arg18.view f18 _
    have h1 : runTree.sl.r_1 c arg19 f19 = arg19.view.read (Elt Ideal) f19 := readAt_whole arg19.view f19 _
    have h2 : runTree.sl.r_2 c arg20 f20 = arg20.view.read (Elt Ideal) f20 := readAt_whole arg20.view f20 _
    have h3 : runTree.sl.r_3 c arg22 f22 = arg22.view.read (Elt Ideal) f22 := readAt_whole arg22.view f22 _
    rw [h0, h1, h2, h3]
    exact hlo
  have inb : ∀ k : Fin 4, ∀ a : Fin 2, (![4, 32] : Fin 2 → ℕ) a = 0 ∨ (![k.val, 0] : Fin 2 → ℕ) a + (![4, 1] : Fin 2 → ℕ) a * ((![4, 32] : Fin 2 → ℕ) a - 1) < (![16, 32] : Fin 2 → ℕ) a := by
    decide
  exact quarters (v := arg13.view) (G := p.emb 12) (T := runTree.sl.r_12 c arg14 arg15 arg16 arg18 arg19 arg20 arg22 f14 f18 f19 f20 f22) (h0 := slices_S4x128_o0_0_S4x32) (h1 := slices_S4x128_o0_32_S4x32)
    (h2 := slices_S4x128_o0_64_S4x32) (h3 := slices_S4x128_o0_96_S4x32) (i := inb) (s := spos_4_1) (tree0 arg15 arg16 hw hu) f13 y

end Tree

end Cert.KernelIdeal.Body

end
-- ==== Proof.Value.lean ====
/-
  The kernel's result at the ideal floats: the invariant of the grid, its three steps, and the run that names the result.
-/
module

public import proofs.«01_k».proof.Proof.Blocks
public import proofs.«01_k».proof.Proof.TreeValue
public import proofs.«01_k».proof.Proof.Frames

@[expose] public section

set_option maxRecDepth 65536

noncomputable section

namespace Cert.KernelIdeal.Body

open Cert.KernelIdeal Cert.KernelIdeal.Gen Cert.Spec
open Idealize.ShloMosaic hiding ix0 ix1 ix2 ix3 ix4 ix5
open Idealize.ShloMosaic.ValueIdx Idealize.ShloMosaic.TcCoe

variable (m : (ℓ : Loc nD τ sig) → Buf (Elt Ideal) ℓ)

/-- The weight buffers hold the network's weights as the kernel lays them out. -/
def Laid (p : Net) {c : Dev nD} (H : Held Ideal c) : Prop :=
  LeafWeights p ((Memref.whole cc0_scratch3).view.read (Elt Ideal) H.wu) ((Memref.whole cc0_scratch7).view.read (Elt Ideal) H.bu)
  ∧ TreeWeights p ((Memref.whole cc0_scratch4).view.read (Elt Ideal) H.lo) ((Memref.whole cc0_scratch5).view.read (Elt Ideal) H.hi)
      ((Memref.whole cc0_scratch6).view.read (Elt Ideal) H.wc) ((Memref.whole cc0_scratch8).view.read (Elt Ideal) H.bh)

/-- Before point `n`: nothing at the start; from then on the weights laid out, and the own embeddings of the points passed. -/
def Inv (c : Dev nD) (n : ℕ) (H : Held Ideal c) : Prop :=
  n = 0 ∨ (Laid (net m c) H
    ∧ Holds (N := 32768) (W := 128) (Memref.whole cc0_scratch0).view H.u4 (pack (net m c).own) (min (4096 * n) 32764))

/-- The result: the roots' embeddings. -/
def result (c : Dev nD) : Vec Ideal S16x32 .f32 := fun y => (net m c).emb 12 (y 0).val (y 1).val

/-- What a point may do to the result's buffer. -/
abbrev Out (c : Dev nD) (n : ℕ) (X X' : Vec Ideal S16x32 .f32) : Prop := (n < 8 → X' = X) ∧ (n = 8 → X' = result m c)

/-- Four nodes to a packed row: block `8·t + k` of 2048 nodes starts at packed row `4096·t + 512·k`. -/
theorem quarter (t k : ℕ) : 4 * (4096 * t + 512 * k) = 2048 * (8 * t + k) := by omega

set_option maxHeartbeats 1000000 in
theorem first_step (c : Dev nD) (t : Fin cfg0.N) (ht : t.val = 0) : Step m (Inv m) (Out m) c t := by
  have hlt : t.val < 8 := by omega
  refine step_first m c t ht fun d H X f1 f2 f3 f4 f5 f6 f7 f8 f9 f10 f11 f12 _ h1 h2 h3 h4 h5 h6 h7 h8 h9 h10 h11 h12 => ⟨Or.inr ⟨?_, ?_⟩, fun _ => rfl, fun h => absurd h (by decide)⟩
  · have hg : Given (net m c) f9 f10 f11 f12 :=
      ⟨fun h x => (congrFun h9 _).trans (w8 m c t h x), fun h => (congrFun h10 _).trans (w9 m c t h),
        fun h x => (congrFun h11 _).trans (w10 m c t h x), fun h => (congrFun h12 _).trans (w11 m c t h)⟩
    exact ⟨leaf_weights_written hg _ _, tree_weights_written hg _ _ _ _⟩
  · have hg : Given (net m c) f9 f10 f11 f12 :=
      ⟨fun h x => (congrFun h9 _).trans (w8 m c t h x), fun h => (congrFun h10 _).trans (w9 m c t h),
        fun h x => (congrFun h11 _).trans (w10 m c t h x), fun h => (congrFun h12 _).trans (w11 m c t h)⟩
    have e : min (4096 * 1) 32764 = min (4096 * (t.val + 1)) 32764 := by rw [ht]
    rw [e]
    exact first_result (f14 := H.u4) (arg13 := st0_12 t) (arg9 := st0_8 t) (arg10 := st0_9 t) (arg11 := st0_10 t) (arg12 := st0_11 t) (arg14 := Memref.whole cc0_scratch0)
        (arg15 := Memref.whole cc0_scratch1) (arg16 := Memref.whole cc0_scratch2) (arg17 := Memref.whole cc0_scratch3)
        (arg18 := Memref.whole cc0_scratch4) (arg19 := Memref.whole cc0_scratch5) (arg20 := Memref.whole cc0_scratch6) (arg21 := Memref.whole cc0_scratch7) (arg22 := Memref.whole cc0_scratch8)
        (harg1 := hstage0_0 _) (harg2 := hstage0_1 _) (harg3 := hstage0_2 _) (harg4 := hstage0_3 _) (harg5 := hstage0_4 _) (harg6 := hstage0_5 _) (harg7 := hstage0_6 _)
        (harg8 := hstage0_7 _) (harg9 := hstage0_8 _) (harg10 := hstage0_9 _) (harg11 := hstage0_10 _) (harg12 := hstage0_11 _) (harg13 := hstage0_12 _)
        (harg14 := Memref.isWhole_whole cc0_scratch0) (harg15 := Memref.isWhole_whole cc0_scratch1) (harg16 := Memref.isWhole_whole cc0_scratch2) (harg17 := Memref.isWhole_whole cc0_scratch3)
        (harg18 := Memref.isWhole_whole cc0_scratch4) (harg19 := Memref.isWhole_whole cc0_scratch5) (harg20 := Memref.isWhole_whole cc0_scratch6) (harg21 := Memref.isWhole_whole cc0_scratch7) (harg22 := Memref.isWhole_whole cc0_scratch8)
        (hc1 := (cond_first t ht).1) (hc2 := (cond_first t ht).2.1) (hc3 := (cond_first t ht).2.2) t ht hg (block_of m c h1 (block0 m c t hlt) (quarter t.val 0)) (block_of m c h2 (block1 m c t hlt) (quarter t.val 1))
      (block_of m c h3 (block2 m c t hlt) (quarter t.val 2)) (block_of m c h4 (block3 m c t hlt) (quarter t.val 3)) (block_of m c h5 (block4 m c t hlt) (quarter t.val 4))
      (block_of m c h6 (block5 m c t hlt) (quarter t.val 5)) (block_of m c h7 (block6 m c t hlt) (quarter t.val 6)) (block_of m c h8 (block7 m c t hlt d) (quarter t.val 7))

set_option maxHeartbeats 1000000 in
theorem leaf_step (c : Dev nD) (t : Fin cfg0.N) (h0 : t.val ≠ 0) (ht : t.val < 8) : Step m (Inv m) (Out m) c t := by
  have hlt := ht
  have hne : t.val ≠ 8 := by omega
  refine step_leaf m c t h0 ht fun d H X f1 f2 f3 f4 f5 f6 f7 f8 hI h1 h2 h3 h4 h5 h6 h7 h8 => ?_
  obtain ⟨hl, hu⟩ := hI.resolve_left h0
  refine ⟨Or.inr ⟨hl, ?_⟩, fun _ => rfl, fun h => absurd h hne⟩
  exact leaf_result (f14 := H.u4) (arg13 := st0_12 t) (arg9 := st0_8 t) (arg10 := st0_9 t) (arg11 := st0_10 t) (arg12 := st0_11 t) (arg14 := Memref.whole cc0_scratch0)
        (arg15 := Memref.whole cc0_scratch1) (arg16 := Memref.whole cc0_scratch2) (arg17 := Memref.whole cc0_scratch3)
        (arg18 := Memref.whole cc0_scratch4) (arg19 := Memref.whole cc0_scratch5) (arg20 := Memref.whole cc0_scratch6) (arg21 := Memref.whole cc0_scratch7) (arg22 := Memref.whole cc0_scratch8)
      (harg1 := hstage0_0 _) (harg2 := hstage0_1 _) (harg3 := hstage0_2 _) (harg4 := hstage0_3 _) (harg5 := hstage0_4 _) (harg6 := hstage0_5 _) (harg7 := hstage0_6 _)
      (harg8 := hstage0_7 _) (harg9 := hstage0_8 _) (harg10 := hstage0_9 _) (harg11 := hstage0_10 _) (harg12 := hstage0_11 _) (harg13 := hstage0_12 _)
      (harg14 := Memref.isWhole_whole cc0_scratch0) (harg15 := Memref.isWhole_whole cc0_scratch1) (harg16 := Memref.isWhole_whole cc0_scratch2) (harg17 := Memref.isWhole_whole cc0_scratch3)
      (harg18 := Memref.isWhole_whole cc0_scratch4) (harg19 := Memref.isWhole_whole cc0_scratch5) (harg20 := Memref.isWhole_whole cc0_scratch6) (harg21 := Memref.isWhole_whole cc0_scratch7) (harg22 := Memref.isWhole_whole cc0_scratch8)
      (hc1 := (cond_leaf t h0 ht).1) (hc3 := (cond_leaf t h0 ht).2.2) t hl.1 hu (block_of m c h1 (block0 m c t hlt) (quarter t.val 0)) (block_of m c h2 (block1 m c t hlt) (quarter t.val 1))
      (block_of m c h3 (block2 m c t hlt) (quarter t.val 2)) (block_of m c h4 (block3 m c t hlt) (quarter t.val 3)) (block_of m c h5 (block4 m c t hlt) (quarter t.val 4))
      (block_of m c h6 (block5 m c t hlt) (quarter t.val 5)) (block_of m c h7 (block6 m c t hlt) (quarter t.val 6)) (block_of m c h8 (block7 m c t hlt d) (quarter t.val 7))

theorem tree_step (c : Dev nD) (t : Fin cfg0.N) (ht : t.val = 8) : Step m (Inv m) (Out m) c t := by
  refine step_tree m c t ht fun H X f13 hI _ => ?_
  obtain ⟨hl, hu⟩ := hI.resolve_left (by decide)
  refine ⟨Or.inr ⟨hl, hu⟩, fun h => absurd h (by decide), fun _ => funext fun y => ?_⟩
  exact tree_result (Memref.whole cc0_scratch1) (Memref.whole cc0_scratch2) hl.2 hu f13 y

theorem steps (c : Dev nD) (t : Fin cfg0.N) : Step m (Inv m) (Out m) c t := by
  by_cases h0 : t.val = 0
  · exact first_step m c t h0
  · by_cases h8 : t.val < 8
    · exact leaf_step m c t h0 h8
    · have h := t.isLt
      have hN : cfg0.N = 9 := N_0
      exact tree_step m c t (by omega)

/-- The result's array after the launch. -/
theorem final (c : Dev nD) : (dats m (Inv m) (result m) 0 c).arrAt 12 cfg0.N = result m c := by
  refine (dats m (Inv m) (result m) 0 c).arrAt_eq_of_after_last 12 t0_8 (by decide +kernel) _ fun j => ?_
  blk_simp
  rfl

/-- Every run ends with the roots' embeddings in the result and the arguments as they were. -/
theorem run_result (g : Dev nD → PrngReg) :
    θ_run defs (onTc (τ := τ) (main (F := Ideal))) ⟨m, fun _ => 0, g⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := run_named m (Inv m) (result m) (fun _ _ => Or.inl rfl) g (steps m)
  simpa only [final] using h

end Cert.KernelIdeal.Body

end
-- ==== Proof.Wiring.lean ====
/-
  What the precondition says: on every level, the children of a level's node `r` are the next level's nodes `2r` and `2r + 1`.
-/
module

public import proofs.«01_k».proof.Pre_perfect_trees
public import Idealize.ShloMosaic.Lib.Affine
public import Idealize.ShloMosaic.Lib.Pipeline.ValueKit
public import Idealize.ShloMosaic.Lib.StableHlo.Predicate

@[expose] public section

set_option maxRecDepth 16384

namespace Cert.Spec

open Idealize.ShloMosaic hiding ix0 ix1 ix2 ix3 ix4 ix5
open Idealize.ShloMosaic.ValueIdx

/-- The children table: two columns, one row per inner node. -/
abbrev Children : Type := IVec ⟨2, ![65520, 2]⟩ 32

/-- The level of `n` nodes whose rows start at `off` is wired as a perfect binary tree's. -/
def Wired (ch : Children) (off n : ℕ) : Prop :=
  ∀ (r : ℕ) (_ : r < n) (k : Fin 2) (h : off + r < 65520), ch (ix2 (⟨off + r, h⟩ : Fin 65520) k) = BitVec.ofNat 32 (2 * r + k.val)

/-- All twelve levels are. -/
def Perfect (ch : Children) : Prop :=
  Wired ch 0 16 ∧ Wired ch 16 32 ∧ Wired ch 48 64 ∧ Wired ch 112 128 ∧ Wired ch 240 256 ∧ Wired ch 496 512 ∧ Wired ch 1008 1024
  ∧ Wired ch 2032 2048 ∧ Wired ch 4080 4096 ∧ Wired ch 8176 8192 ∧ Wired ch 16368 16384 ∧ Wired ch 32752 32768

/-- A conjunction folded over a list is true only if its start and all its members are. -/
theorem all_of_fold {β : Type} (f : β → BitVec 1) (l : List β) (a : BitVec 1) (h : l.foldl (fun r n => IntOp.andi r (f n)) a = 1#1) :
    a = 1#1 ∧ ∀ n ∈ l, f n = 1#1 := by
  induction l generalizing a with
  | nil => exact ⟨h, fun _ h => absurd h List.not_mem_nil⟩
  | cons b l ih =>
    obtain ⟨h1, h2⟩ := ih _ h
    obtain ⟨h3, h4⟩ := IntOp.andi_eq_one.mp h1
    refine ⟨h3, fun n hn => ?_⟩
    rcases List.mem_cons.mp hn with rfl | hn
    · exact h4
    · exact h2 n hn

/-- A conjunction over a whole array is true only if every entry is. -/
theorem all_of_reduce {s u : Shape} {axes : List (Fin s.rank)} (x : s.Idx → BitVec 1) (v : u.Idx → BitVec 1) (h : s.ReducesTo axes ⟨0, ![]⟩)
    (hu : 0 < u.numel) (j : (⟨0, ![]⟩ : Shape).Idx) (e : Host.reduce IntOp.andi x v h hu j = 1#1) (i : s.Idx) : x i = 1#1 := by
  have e' := (all_of_fold (fun n => x (s.rowMajor.symm n)) _ _ e).2 (s.rowMajor i)
    (List.mem_filter.mpr ⟨List.mem_finRange _, decide_eq_true (funext fun a => a.elim0)⟩)
  simpa using e'

/-- One level's check, passed. -/
theorem wired_of_check {off n : ℕ} (ch : Children) (hs : (⟨2, ![65520, 2]⟩ : Shape).Slices ![off, 0] ⟨2, ![n, 2]⟩)
    (hb : (⟨0, ![]⟩ : Shape).BroadcastsInDim ⟨2, ![n, 2]⟩ ![]) (hr : (⟨2, ![n, 2]⟩ : Shape).ReducesTo [0, 1] ⟨0, ![]⟩)
    (hu : 0 < (⟨0, ![]⟩ : Shape).numel) (j : (⟨0, ![]⟩ : Shape).Idx)
    (e : Host.reduce IntOp.andi (cmpi .eq (extractStridedSlice ⟨2, ![n, 2]⟩ ![off, 0] ch hs)
      (addi (muli (broadcastInDim ⟨2, ![n, 2]⟩ ![] hb (constantI ⟨0, ![]⟩ 32 2#32)) (iotaInDim ⟨2, ![n, 2]⟩ 32 0)) (iotaInDim ⟨2, ![n, 2]⟩ 32 1)))
      (constantI ⟨0, ![]⟩ 1 1#1) hr hu j = 1#1) : Wired ch off n := by
  intro r hrn k h
  have e1 := StableHlo.Predicate.cmpi_eq_iff.mp (all_of_reduce _ _ hr hu j e (ix2 (⟨r, hrn⟩ : Fin n) k))
  rw [Idealize.ShloMosaic.extractStridedSlice_apply ![off, 0] ch hs _ (ix2 (⟨off + r, h⟩ : Fin 65520) k)
    (Fin.forall_fin_two.mpr ⟨rfl, (Nat.zero_add _).symm⟩)] at e1
  refine e1.trans ?_
  show 2#32 * BitVec.ofNat 32 r + BitVec.ofNat 32 k.val = BitVec.ofNat 32 (2 * r + k.val)
  rw [BitVec.ofNat_add, BitVec.ofNat_mul]

end Cert.Spec

namespace Cert.Pre_perfect_trees

open Idealize.ShloMosaic Cert.Spec

/-- The side conditions of the precondition's operations. -/
theorem pre_facts : Facts := by constructor <;> decide

/-- Two truths from a conjunction's. -/
theorem both (a b : IVec S_ 1) (j : S_.Idx) (h : andi a b j = 1#1) : a j = 1#1 ∧ b j = 1#1 := IntOp.andi_eq_one.mp h

/-- The precondition, level by level. -/
theorem wiring [Facts] (C : FVec Ideal S131056x64 .f32) (ch : IVec S65520x2 32) (Wu : FVec Ideal S32x64 .f32) (bu : FVec Ideal S32 .f32)
    (Wh : FVec Ideal S32x96 .f32) (bh : FVec Ideal S32 .f32) (h : fn C ch Wu bu Wh bh = fun _ => 1#1) :
    Perfect ch := by
  have j : S_.Idx := fun a => a.elim0
  obtain ⟨h, w11⟩ := both _ _ j (congrFun h j)
  obtain ⟨h, w10⟩ := both _ _ j h
  obtain ⟨h, w9⟩ := both _ _ j h
  obtain ⟨h, w8⟩ := both _ _ j h
  obtain ⟨h, w7⟩ := both _ _ j h
  obtain ⟨h, w6⟩ := both _ _ j h
  obtain ⟨h, w5⟩ := both _ _ j h
  obtain ⟨h, w4⟩ := both _ _ j h
  obtain ⟨h, w3⟩ := both _ _ j h
  obtain ⟨h, w2⟩ := both _ _ j h
  obtain ⟨h, w1⟩ := both _ _ j h
  obtain ⟨_, w0⟩ := both _ _ j h
  exact ⟨wired_of_check ch _ _ _ _ j w0, wired_of_check ch _ _ _ _ j w1, wired_of_check ch _ _ _ _ j w2, wired_of_check ch _ _ _ _ j w3,
    wired_of_check ch _ _ _ _ j w4, wired_of_check ch _ _ _ _ j w5, wired_of_check ch _ _ _ _ j w6, wired_of_check ch _ _ _ _ j w7,
    wired_of_check ch _ _ _ _ j w8, wired_of_check ch _ _ _ _ j w9, wired_of_check ch _ _ _ _ j w10, wired_of_check ch _ _ _ _ j w11⟩

end Cert.Pre_perfect_trees
-- ==== Proof.Level.lean ====
/-
  One level of the reference, at any number of nodes: a layer read at a node and a hidden unit, a gather through the children
  table, and the level as the network's next embedding.
-/
module

public import proofs.«01_k».proof.Proof.Blocks
public import proofs.«01_k».proof.Proof.Wiring
public import Idealize.ShloMosaic.Lib.StackMember
public import Idealize.ShloMosaic.Lib.ValueLayout
public import Idealize.ShloMosaic.Lib.Routing.Ops

@[expose] public section

set_option maxRecDepth 16384

noncomputable section

namespace Cert.Spec

open Idealize.ShloMosaic hiding ix0 ix1 ix2 ix3 ix4 ix5
open Idealize.ShloMosaic.ValueIdx
open scoped BigOperators

/-- A bias. -/
abbrev Row (n : ℕ) : Type := FVec Ideal ⟨1, ![n]⟩ .f32

/-- The shape conditions of a layer of `n` nodes and `K` inputs. -/
structure LayerShapes (n K : ℕ) : Prop where
  tr : (⟨2, ![32, K]⟩ : Shape).Transposes [1, 0] ⟨2, ![K, 32]⟩
  row : (⟨1, ![32]⟩ : Shape).BroadcastsInDim ⟨2, ![1, 32]⟩ ![1]
  rows : (⟨2, ![1, 32]⟩ : Shape).BroadcastsInDim ⟨2, ![n, 32]⟩ ![0, 1]
  zero : (⟨0, ![]⟩ : Shape).BroadcastsInDim ⟨2, ![n, 32]⟩ ![]

/-- A layer: product with the transposed weights, bias, maximum with zero. -/
def layer {n K : ℕ} (s : LayerShapes n K) (x : Mat n K) (W : Mat 32 K) (b : Row 32) : Mat n 32 :=
  maximumf (addf (Host.dotGeneral (DotDims.plain n K 32) none x (transpose ⟨2, ![K, 32]⟩ [1, 0] W s.tr))
      (broadcastInDim ⟨2, ![n, 32]⟩ ![0, 1] s.rows (broadcastInDim ⟨2, ![1, 32]⟩ ![1] s.row b)))
    (broadcastInDim ⟨2, ![n, 32]⟩ ![] s.zero (constant (F := Ideal) ⟨0, ![]⟩ .f32 0x00000000#32))

/-- A layer, read at a node and a hidden unit. -/
theorem layer_apply {n K : ℕ} (s : LayerShapes n K) (x : Mat n K) (W : Mat 32 K) (b : Row 32) (r : Fin n) (h : Fin 32) :
    layer s x W b (ix2 r h) = max ((∑ k : Fin K, x (ix2 r k) * W (ix2 h k)) + b (ix1 h)) 0 := by
  have e1 : Host.dotGeneral (DotDims.plain n K 32) none x (transpose ⟨2, ![K, 32]⟩ [1, 0] W s.tr) (ix2 r h) = ∑ k : Fin K, x (ix2 r k) * W (ix2 h k) :=
    (Idealize.ShloMosaic.StackMember.dotGeneral_plain_apply none x _ r h).trans (Finset.sum_congr rfl fun k _ => by rw [transpose_ix2_apply W s.tr k h])
  have e2 : broadcastInDim ⟨2, ![n, 32]⟩ ![0, 1] s.rows (broadcastInDim ⟨2, ![1, 32]⟩ ![1] s.row b) (ix2 r h) = b (ix1 h) := by
    refine (broadcastInDim_apply _ s.rows _ (ix2 r h) (ix2 (0 : Fin 1) h) fun a => ?_).trans (broadcastInDim_apply _ s.row b _ (ix1 h) fun a => ?_)
    · match a with
      | ⟨0, _⟩ => rfl
      | ⟨1, _⟩ => rfl
    · match a with
      | ⟨0, _⟩ => rfl
  have e3 : broadcastInDim ⟨2, ![n, 32]⟩ ![] s.zero (constant (F := Ideal) ⟨0, ![]⟩ .f32 0x00000000#32) (ix2 r h) = 0 :=
    Ideal.ofBits_zero_f32
  show max (Host.dotGeneral (DotDims.plain n K 32) none x (transpose ⟨2, ![K, 32]⟩ [1, 0] W s.tr) (ix2 r h)
    + broadcastInDim ⟨2, ![n, 32]⟩ ![0, 1] s.rows (broadcastInDim ⟨2, ![1, 32]⟩ ![1] s.row b) (ix2 r h)) (broadcastInDim ⟨2, ![n, 32]⟩ ![] s.zero (constant (F := Ideal) ⟨0, ![]⟩ .f32 0x00000000#32) (ix2 r h)) = _
  rw [e1, e2, e3]

variable {C : Mat 131056 64} {Wu : Mat 32 64} {bu : Row 32} {Wh : Mat 32 96} {bh : Row 32}

/-- The own embeddings of the `n` nodes from `off` on. -/
theorem own_level {n off : ℕ} (s : LayerShapes n 64) (hs : (⟨2, ![131056, 64]⟩ : Shape).Slices ![off, 0] ⟨2, ![n, 64]⟩) (r : Fin n) (h : Fin 32) :
    layer s (extractStridedSlice ⟨2, ![n, 64]⟩ ![off, 0] C hs) Wu bu (ix2 r h) = (netOf C Wu bu Wh bh).own (off + r.val) h.val := by
  rw [layer_apply]
  refine congrArg (max · 0) (congrArg₂ (· + ·) (Finset.sum_congr rfl fun k _ => congrArg₂ (· * ·) ?_ ?_) (on1_apply bu _ rfl))
  · refine on2_apply C _ ?_ ?_
    · rfl
    · exact Nat.zero_add _
  · exact on2_apply Wu _ rfl rfl

/-- The shape conditions of reading one column of the children table's level. -/
structure PickShapes (n off : ℕ) : Prop where
  rows : (⟨2, ![65520, 2]⟩ : Shape).Slices ![off, 0] ⟨2, ![n, 2]⟩
  left : (⟨2, ![n, 2]⟩ : Shape).Slices ![0, 0] ⟨2, ![n, 1]⟩
  right : (⟨2, ![n, 2]⟩ : Shape).Slices ![0, 1] ⟨2, ![n, 1]⟩
  flat : (⟨2, ![n, 1]⟩ : Shape).ShapeCasts ⟨1, ![n]⟩
  col : (⟨1, ![n]⟩ : Shape).BroadcastsInDim ⟨2, ![n, 1]⟩ ![0]
  zero : (⟨0, ![]⟩ : Shape).BroadcastsInDim ⟨1, ![n]⟩ ![]

/-- A column of row numbers, a negative one counted from the end of `w` rows. -/
def wrapped {n : ℕ} (hc : (⟨1, ![n]⟩ : Shape).BroadcastsInDim ⟨2, ![n, 1]⟩ ![0]) (hz : (⟨0, ![]⟩ : Shape).BroadcastsInDim ⟨1, ![n]⟩ ![])
    (w : BitVec 32) (v : IVec ⟨1, ![n]⟩ 32) : IVec ⟨2, ![n, 1]⟩ 32 :=
  broadcastInDim ⟨2, ![n, 1]⟩ ![0] hc (select (cmpi .slt v (broadcastInDim ⟨1, ![n]⟩ ![] hz (constantI ⟨0, ![]⟩ 32 0#32)))
    (addi v (broadcastInDim ⟨1, ![n]⟩ ![] hz (constantI ⟨0, ![]⟩ 32 w))) v)

/-- A small number is not negative and stays. -/
theorem wrapped_apply {n : ℕ} (hc : (⟨1, ![n]⟩ : Shape).BroadcastsInDim ⟨2, ![n, 1]⟩ ![0]) (hz : (⟨0, ![]⟩ : Shape).BroadcastsInDim ⟨1, ![n]⟩ ![])
    (w : BitVec 32) (v : IVec ⟨1, ![n]⟩ 32) (r : Fin n) {b : ℕ} (hb : b < 2 ^ 31) (hv : v (ix1 r) = BitVec.ofNat 32 b) :
    wrapped hc hz w v (ix2 r (0 : Fin 1)) = BitVec.ofNat 32 b := by
  refine (broadcastInDim_apply _ hc _ (ix2 r (0 : Fin 1)) (ix1 r) fun a => ?_).trans ?_
  · match a with
    | ⟨0, _⟩ =>
      have hr := r.isLt
      show r.val = if n = 1 then 0 else r.val
      split <;> omega
  · show Scalar.select (IntOp.cmpi .slt (v (ix1 r)) 0#32) (v (ix1 r) + w) (v (ix1 r)) = _
    rw [hv]
    have e : IntOp.cmpi .slt (BitVec.ofNat 32 b) 0#32 ≠ 1#1 := by
      intro e
      have := IntOp.cmpi_slt.mp e
      rw [StableHlo.Predicate.toInt_ofNat_small b hb] at this
      exact absurd this (by simp)
    exact if_neg e

/-- Column `k` of a level of the children table. -/
theorem column_apply {n off : ℕ} {ch : Children} (hw : Wired ch off n) (hn : off + n ≤ 65520) (k : Fin 2) (h1) (h2) (h3) (r : Fin n) :
    shapeCast ⟨1, ![n]⟩ (extractStridedSlice ⟨2, ![n, 1]⟩ ![0, k.val] (extractStridedSlice ⟨2, ![n, 2]⟩ ![off, 0] ch h1) h2) h3 (ix1 r)
      = BitVec.ofNat 32 (2 * r.val + k.val) := by
  have hr := r.isLt
  rw [Routing.cast21 _ h3 r (0 : Fin 1) r (by simp)]
  rw [Idealize.ShloMosaic.extractStridedSlice_apply ![0, k.val] _ h2 _ (ix2 r k) (Fin.forall_fin_two.mpr ⟨(Nat.zero_add _).symm, rfl⟩),
    Idealize.ShloMosaic.extractStridedSlice_apply ![off, 0] ch h1 _ (ix2 (⟨off + r.val, by omega⟩ : Fin 65520) k)
      (Fin.forall_fin_two.mpr ⟨rfl, (Nat.zero_add _).symm⟩)]
  exact hw r.val hr k _

/-- Three blocks of 32 lanes side by side, read at one row. -/
theorem three_side_by_side {n : ℕ} {x0 x1 x2 : Mat n 32} {G : ℕ → ℕ → EReal}
    {h : Shape.Concatenates [⟨2, ![n, 32]⟩, ⟨2, ![n, 32]⟩, ⟨2, ![n, 32]⟩] ⟨2, ![n, 96]⟩ 1} (r : Fin n)
    (h0 : ∀ f : Fin 32, x0 (ix2 r f) = G 0 f.val) (h1 : ∀ f : Fin 32, x1 (ix2 r f) = G 1 f.val) (h2 : ∀ f : Fin 32, x2 (ix2 r f) = G 2 f.val) (k : Fin 96) :
    concatenate ⟨2, ![n, 96]⟩ 1 [⟨⟨2, ![n, 32]⟩, x0⟩, ⟨⟨2, ![n, 32]⟩, x1⟩, ⟨⟨2, ![n, 32]⟩, x2⟩] h (ix2 r k) = G (k.val / 32) (k.val % 32) := by
  have hk := k.isLt
  have e : ∀ (o : ℕ) (ho : k.val - o < 32) {y : (⟨2, ![n, 32]⟩ : Shape).Idx}, (y 0).val = r.val → (y 1).val = k.val - o → y = ix2 r (⟨k.val - o, ho⟩ : Fin 32) :=
    fun o ho y h0 h1 => funext (Fin.forall_fin_two.mpr ⟨Fin.ext h0, Fin.ext h1⟩)
  have q : ∀ g : ℕ, 32 * g ≤ k.val → k.val - 32 * g < 32 → G g (k.val - 32 * g) = G (k.val / 32) (k.val % 32) := fun g h h' => by
    rw [show k.val / 32 = g by omega, show k.val % 32 = k.val - 32 * g by omega]
  pointwise
  split_ifs with a b
  · change k.val < 32 at a
    exact Eq.trans (congrArg x0 (e 0 a rfl rfl)) ((h0 _).trans (q 0 (by omega) (by omega)))
  · change ¬ k.val < 32 at a
    change k.val - 32 < 32 at b
    exact Eq.trans (congrArg x1 (e 32 b rfl rfl)) ((h1 _).trans (q 1 (by omega) (by omega)))
  · change ¬ k.val - 32 < 32 at b
    exact Eq.trans (congrArg x2 (e 64 (by omega) rfl (show k.val - 32 - 32 = k.val - 64 by omega))) ((h2 _).trans (q 2 (by omega) (by omega)))

/-- A sum over the 96 inputs of an inner node: 64 from the children, 32 of its own. -/
theorem sum_split (f : ℕ → EReal) : ∑ k : Fin 96, f k.val = (∑ k : Fin 64, f k.val) + ∑ k : Fin 32, f (64 + k.val) :=
  Fin.sum_univ_add (fun k : Fin (64 + 32) => f k.val)

/-- What the reference computes for a level of `n` nodes from the next level's embeddings `E`. -/
def levelTerm {n N off : ℕ} (s : LayerShapes n 64) (t : LayerShapes n 96) (q : PickShapes n off)
    (hs : (⟨2, ![131056, 64]⟩ : Shape).Slices ![off, 0] ⟨2, ![n, 64]⟩)
    (hc : Shape.Concatenates [⟨2, ![n, 32]⟩, ⟨2, ![n, 32]⟩, ⟨2, ![n, 32]⟩] ⟨2, ![n, 96]⟩ 1)
    (d : GatherDims ⟨2, ![N, 32]⟩ ⟨2, ![n, 1]⟩ ⟨2, ![n, 32]⟩) (w : BitVec 32) (ch : Children) (C : Mat 131056 64) (Wu : Mat 32 64) (bu : Row 32) (Wh : Mat 32 96) (bh : Row 32)
    (E : Mat N 32) : Mat n 32 :=
  layer t (concatenate ⟨2, ![n, 96]⟩ 1
    [⟨⟨2, ![n, 32]⟩, Host.gather d E (wrapped q.col q.zero w (shapeCast ⟨1, ![n]⟩ (extractStridedSlice ⟨2, ![n, 1]⟩ ![0, 0] (extractStridedSlice ⟨2, ![n, 2]⟩ ![off, 0] ch q.rows) q.left) q.flat))⟩,
     ⟨⟨2, ![n, 32]⟩, Host.gather d E (wrapped q.col q.zero w (shapeCast ⟨1, ![n]⟩ (extractStridedSlice ⟨2, ![n, 1]⟩ ![0, 1] (extractStridedSlice ⟨2, ![n, 2]⟩ ![off, 0] ch q.rows) q.right) q.flat))⟩,
     ⟨⟨2, ![n, 32]⟩, layer s (extractStridedSlice ⟨2, ![n, 64]⟩ ![off, 0] C hs) Wu bu⟩] hc) Wh bh

/-- One level: from the embeddings of the next level, of twice as many nodes, to this level's. -/
theorem level_apply {n N off lev : ℕ} {s : LayerShapes n 64} {t : LayerShapes n 96} {q : PickShapes n off}
    {hs : (⟨2, ![131056, 64]⟩ : Shape).Slices ![off, 0] ⟨2, ![n, 64]⟩}
    {hc : Shape.Concatenates [⟨2, ![n, 32]⟩, ⟨2, ![n, 32]⟩, ⟨2, ![n, 32]⟩] ⟨2, ![n, 96]⟩ 1}
    {d : GatherDims ⟨2, ![N, 32]⟩ ⟨2, ![n, 1]⟩ ⟨2, ![n, 32]⟩} (hoff : d.offsetDims = [1]) (hcoll : d.collapsedSliceDims = [0])
    (hob : d.operandBatchingDims = []) (hsim : d.startIndexMap = [0]) (hivd : d.indexVectorDim = 1) {w : BitVec 32} {ch : Children} {E : Mat N 32}
    (hN : N = 2 * n) (hn : off + n ≤ 65520) (hw : Wired ch off n)
    (hE : ∀ (r : Fin N) (h : Fin 32), E (ix2 r h) = (netOf C Wu bu Wh bh).emb lev (2 * off + 16 + r.val) h.val) (r : Fin n) (h : Fin 32) :
    levelTerm s t q hs hc d w ch C Wu bu Wh bh E (ix2 r h) = (netOf C Wu bu Wh bh).emb (lev + 1) (off + r.val) h.val := by
  have hr := r.isLt
  have side : ∀ (k : Fin 2) (v : IVec ⟨1, ![n]⟩ 32), v (ix1 r) = BitVec.ofNat 32 (2 * r.val + k.val) → ∀ f : Fin 32,
      Host.gather d E (wrapped q.col q.zero w v) (ix2 r f) = (netOf C Wu bu Wh bh).emb lev (2 * (off + r.val) + 16 + k.val) f.val := fun k v hv f => by
    have hk := k.isLt
    rw [Routing.gather_row d hoff hcoll hob hsim hivd E _ r f (⟨2 * r.val + k.val, by omega⟩ : Fin N) (wrapped_apply _ _ w v r (by omega) hv) (by omega), hE]
    exact congrArg (fun x => (netOf C Wu bu Wh bh).emb lev x f.val) (show 2 * off + 16 + (2 * r.val + k.val) = 2 * (off + r.val) + 16 + k.val by omega)
  let G : ℕ → ℕ → EReal := fun g f => if g < 2 then (netOf C Wu bu Wh bh).emb lev (2 * (off + r.val) + 16 + g) f else (netOf C Wu bu Wh bh).own (off + r.val) f
  have cat := three_side_by_side (h := hc) (G := G) r
    (side 0 _ (column_apply hw hn 0 q.rows q.left q.flat r)) (side 1 _ (column_apply hw hn 1 q.rows q.right q.flat r)) (fun f => own_level (C := C) (Wu := Wu) (bu := bu) (Wh := Wh) (bh := bh) s hs r f)
  unfold levelTerm
  rw [layer_apply]
  refine congrArg (max · 0) (congrArg₂ (· + ·) ?_ (on1_apply bh _ rfl))
  refine (Finset.sum_congr rfl fun k _ => congrArg₂ (· * ·) (cat k) (on2_apply Wh (ix2 h k) rfl rfl)).trans ?_
  refine (sum_split fun k => G (k / 32) (k % 32) * on2 Wh h.val k).trans (congrArg₂ (· + ·) (Finset.sum_congr rfl fun k _ => ?_) (Finset.sum_congr rfl fun k _ => ?_))
  · have hk := k.isLt
    exact congrArg (· * on2 Wh h.val k.val) (if_pos (by omega))
  · have hk := k.isLt
    refine congrArg (· * on2 Wh h.val (64 + k.val)) ?_
    rw [show (64 + k.val) / 32 = 2 by omega, show (64 + k.val) % 32 = k.val by omega]
    rfl

/-- The same of any array that is such a level's term. -/
theorem level_eq {n N off lev : ℕ} {X : Mat n 32} {E : Mat N 32} {ch : Children} {d : GatherDims ⟨2, ![N, 32]⟩ ⟨2, ![n, 1]⟩ ⟨2, ![n, 32]⟩} {w : BitVec 32}
    (s : LayerShapes n 64) (t : LayerShapes n 96) (q : PickShapes n off) (hs : (⟨2, ![131056, 64]⟩ : Shape).Slices ![off, 0] ⟨2, ![n, 64]⟩)
    (hc : Shape.Concatenates [⟨2, ![n, 32]⟩, ⟨2, ![n, 32]⟩, ⟨2, ![n, 32]⟩] ⟨2, ![n, 96]⟩ 1)
    (e : X = levelTerm s t q hs hc d w ch C Wu bu Wh bh E)
    (hd : d.offsetDims = [1] ∧ d.collapsedSliceDims = [0] ∧ d.operandBatchingDims = [] ∧ d.startIndexMap = [0] ∧ d.indexVectorDim = 1)
    (hN : N = 2 * n) (hn : off + n ≤ 65520) (hw : Wired ch off n)
    (hE : ∀ (r : Fin N) (h : Fin 32), E (ix2 r h) = (netOf C Wu bu Wh bh).emb lev (2 * off + 16 + r.val) h.val) (r : Fin n) (h : Fin 32) :
    X (ix2 r h) = (netOf C Wu bu Wh bh).emb (lev + 1) (off + r.val) h.val := by
  rw [e]
  exact level_apply hd.1 hd.2.1 hd.2.2.1 hd.2.2.2.1 hd.2.2.2.2 hN hn hw hE r h

end Cert.Spec

end
-- ==== Proof.Reference.lean ====
/-
  The reference's result: level by level from the leaves to the roots, each level's array is the network's embeddings.
-/
module

public import proofs.«01_k».proof.Proof.Level
public import proofs.«01_k».proof.Proof.Gen.ReferenceIdeal.Run

@[expose] public section

set_option maxRecDepth 16384

noncomputable section

namespace Cert.ReferenceIdeal.Levels

open Cert.ReferenceIdeal Cert.ReferenceIdeal.Gen Cert.ReferenceIdeal.Value Cert.Spec
open Idealize.ShloMosaic hiding ix0 ix1 ix2 ix3 ix4 ix5
open Idealize.ShloMosaic.ValueIdx Idealize.ShloMosaic.TcCoe Idealize.ShloMosaic.StableHlo Idealize.SL.Sem

variable (V : Valuation τ sig (Elt Ideal))

/-- The network the reference's arguments spell. -/
def net : Net := netOf (V (Proc.devRef .tc main_arg0)) (V (Proc.devRef .tc main_arg2)) (V (Proc.devRef .tc main_arg3)) (V (Proc.devRef .tc main_arg4))
  (V (Proc.devRef .tc main_arg5))

/-- The children table. -/
def table : Children := V (Proc.devRef .tc main_arg1)

/-- An array holds the embeddings of the `n` nodes from `off` on, `lev` levels lying below them. -/
def IsLevel {n : ℕ} (lev off : ℕ) (X : Mat n 32) : Prop := ∀ (r : Fin n) (h : Fin 32), X (ix2 r h) = (net V).emb lev (off + r.val) h.val

/-- The leaves. -/
theorem leaves : IsLevel V 0 65520 (res_main_v6 V) :=
  own_level (n := 65536) (off := 65520) ⟨by decide, by decide, by decide, by decide⟩ slices_S131056x64_S65536x64_65520_0

theorem level1 (hw : Wired (table V) 32752 32768) (hE : IsLevel V 0 65520 (res_main_v6 V)) : IsLevel V 1 32752 (res_main_v39 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level2 (hw : Wired (table V) 16368 16384) (hE : IsLevel V 1 32752 (res_main_v39 V)) : IsLevel V 2 16368 (res_main_v72 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level3 (hw : Wired (table V) 8176 8192) (hE : IsLevel V 2 16368 (res_main_v72 V)) : IsLevel V 3 8176 (res_main_v105 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level4 (hw : Wired (table V) 4080 4096) (hE : IsLevel V 3 8176 (res_main_v105 V)) : IsLevel V 4 4080 (res_main_v138 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level5 (hw : Wired (table V) 2032 2048) (hE : IsLevel V 4 4080 (res_main_v138 V)) : IsLevel V 5 2032 (res_main_v171 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level6 (hw : Wired (table V) 1008 1024) (hE : IsLevel V 5 2032 (res_main_v171 V)) : IsLevel V 6 1008 (res_main_v204 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level7 (hw : Wired (table V) 496 512) (hE : IsLevel V 6 1008 (res_main_v204 V)) : IsLevel V 7 496 (res_main_v237 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level8 (hw : Wired (table V) 240 256) (hE : IsLevel V 7 496 (res_main_v237 V)) : IsLevel V 8 240 (res_main_v270 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level9 (hw : Wired (table V) 112 128) (hE : IsLevel V 8 240 (res_main_v270 V)) : IsLevel V 9 112 (res_main_v303 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level10 (hw : Wired (table V) 48 64) (hE : IsLevel V 9 112 (res_main_v303 V)) : IsLevel V 10 48 (res_main_v336 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

theorem level11 (hw : Wired (table V) 16 32) (hE : IsLevel V 10 48 (res_main_v336 V)) : IsLevel V 11 16 (res_main_v369 V) :=
  level_eq ⟨by decide, by decide, by decide, by decide⟩ ⟨by decide, by decide, by decide, by decide⟩ ⟨by decide, by decide, by decide, by decide, by decide, by decide⟩
    (by decide) (by decide) rfl ⟨rfl, rfl, rfl, rfl, rfl⟩ rfl (by decide) hw hE

/-- The roots, all levels below them done. -/
theorem roots (hp : Perfect (table V)) {s : LayerShapes 16 64} {t : LayerShapes 16 96} {q : PickShapes 16 0} {hs hc} {X : Mat 16 32}
    (e : X = levelTerm s t q hs hc gather_S32x32_S16x1_S16x32_1_0_n_n_0_1_132 32#32 (table V) (V (Proc.devRef .tc main_arg0))
      (V (Proc.devRef .tc main_arg2)) (V (Proc.devRef .tc main_arg3)) (V (Proc.devRef .tc main_arg4)) (V (Proc.devRef .tc main_arg5)) (res_main_v369 V)) :
    X = fun y => (net V).emb 12 (y 0).val (y 1).val := by
  obtain ⟨w0, w1, w2, w3, w4, w5, w6, w7, w8, w9, w10, w11⟩ := hp
  have h := level_eq s t q hs hc e ⟨rfl, rfl, rfl, rfl, rfl⟩ rfl (by decide) w0 (level11 V w1 (level10 V w2 (level9 V w3 (level8 V w4 (level7 V w5
    (level6 V w6 (level5 V w7 (level4 V w8 (level3 V w9 (level2 V w10 (level1 V w11 (leaves V))))))))))))
  funext y
  have hy : y = ix2 (y 0) (y 1) := funext (Fin.forall_fin_two.mpr ⟨rfl, rfl⟩)
  have hr := h (y 0) (y 1)
  rw [Nat.zero_add] at hr
  exact (congrArg X hy).trans hr

/-- Every run of the reference ends with the roots' embeddings in the result and the arguments as they were. -/
theorem run_result (m : (ℓ : Loc nD τ sig) → Buf (Elt Ideal) ℓ) (g : Dev nD → PrngReg) (hp : ∀ c : Dev nD, Perfect (table (launchContents m c))) :
    θ_run defs (onTc (τ := τ) (main (F := Ideal))) ⟨m, fun _ => 0, g⟩ (fun r => ∀ c : Dev nD,
      r.2.mem ((c.tc : Thread nD τ).loc main_v402) = (fun y => (net (launchContents m c)).emb 12 (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (roots (launchContents m c) (hp c)
    (s := ⟨by decide, by decide, by decide, by decide⟩) (t := ⟨by decide, by decide, by decide, by decide⟩)
    (q := ⟨by decide, by decide, by decide, by decide, by decide, by decide⟩) (hs := by decide) (hc := by decide) rfl), (h c).2⟩) (Value.run m g)

end Cert.ReferenceIdeal.Levels

end
-- ==== Proof.Algebraic.lean ====
/-
  The kernel's result is the reference's at the real numbers: both are the roots' embeddings.
-/
module

public import proofs.«01_k».proof.Defs
public import proofs.«01_k».proof.Proof.Value
public import proofs.«01_k».proof.Proof.Reference

@[expose] public section

set_option maxRecDepth 65536

noncomputable section

namespace Cert.Proof

open Idealize.ShloMosaic Idealize.SL.Sem Cert.Spec

attribute [local instance] Cert.KernelIdeal.Gen.facts Cert.ReferenceIdeal.Gen.facts

/-- Where the children table is wired as perfect binary trees, the two programs end with the same array. -/
theorem algebraic [Cert.Pre_perfect_trees.Facts] : Cert.algebraic_KernelIdeal_ReferenceIdeal_pre_perfect_trees := by
  intro m g m' g' hpre hargs
  have hp : ∀ c : Dev Cert.ReferenceIdeal.nD, Perfect (Cert.ReferenceIdeal.Levels.table (StableHlo.launchContents m' c)) := fun c => by
    have h := Cert.Pre_perfect_trees.wiring _ _ _ _ _ _ (hpre c)
    rw [← (hargs c).2.1] at h
    exact h
  refine ⟨fun c => Cert.KernelIdeal.Body.result m c, Cert.KernelIdeal.Body.run_result m g, ?_⟩
  refine (θ_run Cert.ReferenceIdeal.defs _ _).mono (fun _ h c => ⟨(h c).1.trans ?_, (h c).2⟩) (Cert.ReferenceIdeal.Levels.run_result m' g' hp)
  have e : Cert.ReferenceIdeal.Levels.net (StableHlo.launchContents m' c) = Cert.KernelIdeal.Body.net m c := by
    obtain ⟨h0, h1, h2, h3, h4, h5⟩ := hargs c
    exact congr (congr (congr (congr (congrArg netOf h0) h2) h3) h4) h5
  funext y
  exact congrArg (fun p : Net => p.emb 12 (y 0).val (y 1).val) e

end Cert.Proof

end
-- ==== Proof.lean ====
/-
  The certificate's claims, put together from the modules beside this one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.ReferenceFrame
public import proofs.«01_k».proof.Proof.Algebraic

@[expose] public section

noncomputable section

namespace Cert.Proof

attribute [local instance] Cert.Pre_perfect_trees.pre_facts

theorem claim : Cert.Claim :=
  ⟨Cert.Kernel.Gen.facts, Cert.KernelIdeal.Gen.facts, Cert.ReferenceIdeal.Gen.facts, Cert.Pre_perfect_trees.pre_facts,
    quiescent_kernel, quiescent_kernelIdeal, fun m g _ => quiescent_kernelIdeal m g trivial, quiescent_referenceIdeal,
    fun m g _ => quiescent_referenceIdeal m g trivial, trivial, algebraic⟩

end Cert.Proof

end
